-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x4096 : Shape := ⟨3, ![4, 2048, 4096]⟩
abbrev S4096x2048 : Shape := ⟨2, ![4096, 2048]⟩
abbrev S2048 : Shape := ⟨1, ![2048]⟩
abbrev S2048x64 : Shape := ⟨2, ![2048, 64]⟩
abbrev S_ : Shape := ⟨0, ![]⟩

class Facts : Prop where
  bcast_S_S4x2048x4096 : S_.BroadcastsInDim S4x2048x4096 (![] : Fin 0 → Fin S4x2048x4096.rank)
  bcast_S_S4096x2048 : S_.BroadcastsInDim S4096x2048 (![] : Fin 0 → Fin S4096x2048.rank)
  bcast_S_S2048 : S_.BroadcastsInDim S2048 (![] : Fin 0 → Fin S2048.rank)
  bcast_S_S2048x64 : S_.BroadcastsInDim S2048x64 (![] : Fin 0 → Fin S2048x64.rank)

variable [Facts]

def fn_part1 {F : FTy → Type} [FloatOps F] (main_arg3 : FVec F S2048x64 .f32) (main_v4 : IVec S4x2048x4096 1) (main_v9 : IVec S4096x2048 1) (main_v14 : IVec S2048 1) (main_v16 : IVec S2048x64 1) : IVec S4x2048x4096 1 × IVec S4096x2048 1 × IVec S2048 1 × IVec S2048x64 1 :=
  let main_cst_6 : FVec F S_ .f32 := constant S_ .f32 0x7F800000#32
  let main_v17 : FVec F S2048x64 .f32 := broadcastInDim S2048x64 ![] bcast_S_S2048x64 main_cst_6
  let main_v18 : IVec S2048x64 1 := cmpf .olt main_arg3 main_v17
  let main_v19 : IVec S2048x64 1 := andi main_v16 main_v18
  (main_v4, main_v9, main_v14, main_v19)

def fn {F : FTy → Type} [FloatOps F] (main_arg0 : FVec F S4x2048x4096 .f32) (main_arg1 : FVec F S4096x2048 .f32) (main_arg2 : FVec F S2048 .f32) (main_arg3 : FVec F S2048x64 .f32) : IVec S4x2048x4096 1 × IVec S4096x2048 1 × IVec S2048 1 × IVec S2048x64 1 :=
  let main_cst : FVec F S_ .f32 := constant S_ .f32 0xFF800000#32
  let main_v0 : FVec F S4x2048x4096 .f32 := broadcastInDim S4x2048x4096 ![] bcast_S_S4x2048x4096 main_cst
  let main_v1 : IVec S4x2048x4096 1 := cmpf .ogt main_arg0 main_v0
  let main_cst_0 : FVec F S_ .f32 := constant S_ .f32 0x7F800000#32
  let main_v2 : FVec F S4x2048x4096 .f32 := broadcastInDim S4x2048x4096 ![] bcast_S_S4x2048x4096 main_cst_0
  let main_v3 : IVec S4x2048x4096 1 := cmpf .olt main_arg0 main_v2
  let main_v4 : IVec S4x2048x4096 1 := andi main_v1 main_v3
  let main_cst_1 : FVec F S_ .f32 := constant S_ .f32 0xFF800000#32
  let main_v5 : FVec F S4096x2048 .f32 := broadcastInDim S4096x2048 ![] bcast_S_S4096x2048 main_cst_1
  let main_v6 : IVec S4096x2048 1 := cmpf .ogt main_arg1 main_v5
  let main_cst_2 : FVec F S_ .f32 := constant S_ .f32 0x7F800000#32
  let main_v7 : FVec F S4096x2048 .f32 := broadcastInDim S4096x2048 ![] bcast_S_S4096x2048 main_cst_2
  let main_v8 : IVec S4096x2048 1 := cmpf .olt main_arg1 main_v7
  let main_v9 : IVec S4096x2048 1 := andi main_v6 main_v8
  let main_cst_3 : FVec F S_ .f32 := constant S_ .f32 0xFF800000#32
  let main_v10 : FVec F S2048 .f32 := broadcastInDim S2048 ![] bcast_S_S2048 main_cst_3
  let main_v11 : IVec S2048 1 := cmpf .ogt main_arg2 main_v10
  let main_cst_4 : FVec F S_ .f32 := constant S_ .f32 0x7F800000#32
  let main_v12 : FVec F S2048 .f32 := broadcastInDim S2048 ![] bcast_S_S2048 main_cst_4
  let main_v13 : IVec S2048 1 := cmpf .olt main_arg2 main_v12
  let main_v14 : IVec S2048 1 := andi main_v11 main_v13
  let main_cst_5 : FVec F S_ .f32 := constant S_ .f32 0xFF800000#32
  let main_v15 : FVec F S2048x64 .f32 := broadcastInDim S2048x64 ![] bcast_S_S2048x64 main_cst_5
  let main_v16 : IVec S2048x64 1 := cmpf .ogt main_arg3 main_v15
  fn_part1 (F := F) main_arg3 main_v4 main_v9 main_v14 main_v16
-- ==== Kernel.lean ====
abbrev S4x2048x4096 : Shape := ⟨3, ![4, 2048, 4096]⟩
abbrev S4096x2048 : Shape := ⟨2, ![4096, 2048]⟩
abbrev S2048 : Shape := ⟨1, ![2048]⟩
abbrev S2048x64 : Shape := ⟨2, ![2048, 64]⟩
abbrev S8192x4096 : Shape := ⟨2, ![8192, 4096]⟩
abbrev S1x2048 : Shape := ⟨2, ![1, 2048]⟩
abbrev S8192x2 : Shape := ⟨2, ![8192, 2]⟩
abbrev S1x1 : Shape := ⟨2, ![1, 1]⟩
abbrev S512x4096 : Shape := ⟨2, ![512, 4096]⟩
abbrev S512x2 : Shape := ⟨2, ![512, 2]⟩
abbrev S1x64 : Shape := ⟨2, ![1, 64]⟩
abbrev S4 : Shape := ⟨1, ![4]⟩
abbrev S1 : Shape := ⟨1, ![1]⟩
abbrev S_ : Shape := ⟨0, ![]⟩
abbrev S1024x2048 : Shape := ⟨2, ![1024, 2048]⟩
abbrev S512x1024 : Shape := ⟨2, ![512, 1024]⟩
abbrev S512x2048 : Shape := ⟨2, ![512, 2048]⟩
abbrev S512x64 : Shape := ⟨2, ![512, 64]⟩
abbrev S512 : Shape := ⟨1, ![512]⟩
abbrev S512x1 : Shape := ⟨2, ![512, 1]⟩
abbrev S64 : Shape := ⟨1, ![64]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .f32⟩
  | .hbm, ⟨2, _⟩ => ⟨S2048, .f32⟩
  | .hbm, ⟨3, _⟩ => ⟨S2048x64, .f32⟩
  | .hbm, ⟨4, _⟩ => ⟨S8192x4096, .f32⟩
  | .hbm, ⟨5, _⟩ => ⟨S1x2048, .f32⟩
  | .hbm, ⟨6, _⟩ => ⟨S8192x2, .f32⟩
  | .hbm, ⟨7, _⟩ => ⟨S8192x2, .i32⟩
  | .hbm, ⟨8, _⟩ => ⟨S1x1, .f32⟩
  | .hbm, ⟨9, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S1x2048, .f32⟩
  | .local _ .vmem, ⟨3, _⟩ => ⟨S2048x64, .f32⟩
  | .local _ .vmem, ⟨4, _⟩ => ⟨S512x2, .f32⟩
  | .local _ .vmem, ⟨5, _⟩ => ⟨S512x2, .f32⟩
  | .local _ .vmem, ⟨6, _⟩ => ⟨S512x2, .i32⟩
  | .local _ .vmem, ⟨7, _⟩ => ⟨S512x2, .i32⟩
  | .local _ .vmem, ⟨8, _⟩ => ⟨S1x1, .f32⟩
  | .local _ .vmem, ⟨9, _⟩ => ⟨S4096x2048, .f32⟩
  | .local _ .vmem, ⟨10, _⟩ => ⟨S1x64, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c15_i32 : BitVec 32 := 15#32
  let v6 : BitVec 1 := Scalar.cmpi .eq arg0 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x2048x4096 : Shape := ⟨3, ![4, 2048, 4096]⟩
abbrev S4096x2048 : Shape := ⟨2, ![4096, 2048]⟩
abbrev S2048 : Shape := ⟨1, ![2048]⟩
abbrev S2048x64 : Shape := ⟨2, ![2048, 64]⟩
abbrev S8192x4096 : Shape := ⟨2, ![8192, 4096]⟩
abbrev S8192x2048 : Shape := ⟨2, ![8192, 2048]⟩
abbrev S1x2048 : Shape := ⟨2, ![1, 2048]⟩
abbrev S_ : Shape := ⟨0, ![]⟩
abbrev S8192x64 : Shape := ⟨2, ![8192, 64]⟩
abbrev S8192 : Shape := ⟨1, ![8192]⟩
abbrev S8192x1 : Shape := ⟨2, ![8192, 1]⟩
abbrev S8192x2 : Shape := ⟨2, ![8192, 2]⟩
abbrev S64 : Shape := ⟨1, ![64]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .f32⟩
  | .hbm, ⟨2, _⟩ => ⟨S2048, .f32⟩
  | .hbm, ⟨3, _⟩ => ⟨S2048x64, .f32⟩
  | .hbm, ⟨4, _⟩ => ⟨S8192x4096, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x64, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x64, .f32⟩
  | .hbm, ⟨26, _⟩ => ⟨S8192x64, .f32⟩
  | .hbm, ⟨27, _⟩ => ⟨S8192x2, .f32⟩
  | .hbm, ⟨28, _⟩ => ⟨S8192x2, .i32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x2, .f32⟩
  | .hbm, ⟨36, _⟩ => ⟨S8192x2, .f32⟩
  | .hbm, ⟨37, _⟩ => ⟨S8192x2, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2, .f32⟩
  | .hbm, ⟨42, _⟩ => ⟨S8192x2, .f32⟩
  | .hbm, ⟨43, _⟩ => ⟨S_, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_values : Ref sig .tc := ⟨.hbm, 27, rfl⟩
abbrev main_indices : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Proof.FusedIdeal.Kit.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! The launch's set-up over the algebra that counts transfers, and the names the body's runs are stated in. -/

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      ((h c).1 2).trans (((dats 0 c).arrAt_in 2 rfl _).trans ((hA c 2).trans (V_main_arg3 m c)))⟩) h

/-! ## Which conditional blocks a point runs -/

/-- The block that copies the weights runs at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The block that finds the weights copied runs at every later point. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)
/-- The block that stores the loss runs at the last point only. -/
theorem last_iff : ∀ t : Fin cfg0.N, k0_cond3 (grid0.coords t) = 1#1 ↔ t.val = 15 :=
  (by decide +kernel : ∀ t : Fin grid0.N, k0_cond3 (grid0.coords t) = 1#1 ↔ t.val = 15)

/-- The windows other than the loss's are live at every point. -/
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 : ∀ t : Fin cfg0.N, cfg0.idle 3 (grid0.coords t) = false := by decide +kernel
theorem live4 : ∀ t : Fin cfg0.N, cfg0.idle 4 (grid0.coords t) = false := by decide +kernel
/-- The loss's window is live at the last point and nowhere else, and nowhere else is its block written back. -/
theorem live5 : ∀ t : Fin cfg0.N, t.val = 15 → cfg0.idle 5 (grid0.coords t) = false := by decide +kernel
theorem idle5 : ∀ t : Fin cfg0.N, t.val ≠ 15 → cfg0.idle 5 (grid0.coords t) = true := by decide +kernel
theorem noFlush5 : ∀ t : Fin cfg0.N, t.val ≠ 15 → (cfg0.win 5).flush t = false := by decide +kernel

/-! ## The buffers the body is given -/

/-- Each window's current staging memref at point `t`, spelled as the pipeline passes it (`bodyAt0`), and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S4096x2048 .f32 := Memref.whole cc0_scratch0
abbrev scM0_1 : Memref sig .tc .vmem S1x64 .f32 := Memref.whole cc0_scratch1
/-- The operands left in HBM that the body copies into scratch itself, whole. -/
abbrev hbM0_0 : Memref sig .tc .hbm S4096x2048 .f32 := Memref.whole main_arg1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg1}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg1))) := by
  rw [Pipeline.ΦD_eq, scopedRest0_eq, ownSems00_eq, hbmPts0_eq]; simp only [scM0_0, scM0_1, owns_whole]; try rfl

end Cert.KernelIdeal.Fused

end
-- ==== Proof.FusedIdeal.Body.lean ====
module

public import proofs.«01_k».proof.Proof.FusedIdeal.Kit
public import Idealize.ShloMosaic.Lib.VecWindow
public import Idealize.ShloMosaic.Lib.Pipeline.Value
public import Idealize.ShloMosaic.Lib.Pipeline.ReadBack

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What a point computes from its blocks, the weights and the running sum -/

/-- The first block's hidden layer before the bias: four partial products, one per quarter of the weights, added up. -/
def firstPre (x : Vec F S512x4096 .f32) (w : Vec F S4096x2048 .f32) : FVec F S512x2048 .f32 :=
  k0_pay9
    (k0_pay8 (View.ld x (Rect.unit (s := S512x4096) ![0, 0] S512x1024.size inb_S512x4096_S512x1024_0_0))
      (View.ld w (Rect.unit (s := S4096x2048) ![0, 0] S1024x2048.size inb_S4096x2048_S1024x2048_0_0)))
    (View.ld x (Rect.unit (s := S512x4096) ![0, 1024] S512x1024.size inb_S512x4096_S512x1024_0_1024))
    (View.ld w (Rect.unit (s := S4096x2048) ![1024, 0] S1024x2048.size inb_S4096x2048_S1024x2048_1024_0))
    (View.ld x (Rect.unit (s := S512x4096) ![0, 2048] S512x1024.size inb_S512x4096_S512x1024_0_2048))
    (View.ld w (Rect.unit (s := S4096x2048) ![2048, 0] S1024x2048.size inb_S4096x2048_S1024x2048_2048_0))
    (View.ld x (Rect.unit (s := S512x4096) ![0, 3072] S512x1024.size inb_S512x4096_S512x1024_0_3072))
    (View.ld w (Rect.unit (s := S4096x2048) ![3072, 0] S1024x2048.size inb_S4096x2048_S1024x2048_3072_0))

variable (x : Vec F S512x4096 .f32) (w : Vec F S4096x2048 .f32) (b : Vec F S1x2048 .f32) (u : Vec F S2048x64 .f32)

/-- The first block's two scores per row, -/
def firstScores : Vec F S512x2 .f32 :=
  k0_pay1 (k0_pay16 (firstPre x w) b u) (k0_pay17 (firstPre x w) b u) (k0_pay18 (firstPre x w) b u)
/-- their two indices, -/
def firstIdx : Vec F S512x2 .i32 := k0_pay2 (k0_pay12 (firstPre x w) b u) (k0_pay15 (firstPre x w) b u)
/-- and the running sum it starts, with `a` what the buffer held before. -/
def firstSum (i : grid0.Coords) (a : Vec F S1x64 .f32) : Vec F S1x64 .f32 := k0_pay3 i (k0_pay10 (firstPre x w) b u) a
/-- A later block's two scores per row, -/
def laterScores : Vec F S512x2 .f32 := k0_pay4 (k0_pay20 x w b u) (k0_pay23 x w b u)
/-- their two indices, -/
def laterIdx : Vec F S512x2 .i32 := k0_pay5 (k0_pay21 x w b u) (k0_pay24 x w b u)
/-- and the running sum after it, with `a` the sum before. -/
def laterSum (i : grid0.Coords) (a : Vec F S1x64 .f32) : Vec F S1x64 .f32 := k0_pay6 i (k0_pay19 x w b u) a

theorem zeros : (![0, 0] : Fin 2 → ℕ) = fun _ => 0 := by funext a; fin_cases a <;> rfl

/-! A load of a whole buffer reads it. -/

theorem whole_512x4096 (v : Vec F S512x4096 .f32) (inb : ∀ a, (![0, 0] : Fin 2 → ℕ) a + (![512, 4096] : Fin 2 → ℕ) a ≤ S512x4096.size a) :
    View.ld v (Rect.unit (s := S512x4096) ![0, 0] ![512, 4096] inb) = v := View.ld_unit_zero (S := S512x4096) zeros inb v

theorem whole_4096x2048 (v : Vec F S4096x2048 .f32) (inb : ∀ a, (![0, 0] : Fin 2 → ℕ) a + (![4096, 2048] : Fin 2 → ℕ) a ≤ S4096x2048.size a) :
    View.ld v (Rect.unit (s := S4096x2048) ![0, 0] ![4096, 2048] inb) = v := View.ld_unit_zero (S := S4096x2048) zeros inb v

theorem whole_1x2048 (v : Vec F S1x2048 .f32) (inb : ∀ a, (![0, 0] : Fin 2 → ℕ) a + (![1, 2048] : Fin 2 → ℕ) a ≤ S1x2048.size a) :
    View.ld v (Rect.unit (s := S1x2048) ![0, 0] ![1, 2048] inb) = v := View.ld_unit_zero (S := S1x2048) zeros inb v

theorem whole_2048x64 (v : Vec F S2048x64 .f32) (inb : ∀ a, (![0, 0] : Fin 2 → ℕ) a + (![2048, 64] : Fin 2 → ℕ) a ≤ S2048x64.size a) :
    View.ld v (Rect.unit (s := S2048x64) ![0, 0] ![2048, 64] inb) = v := View.ld_unit_zero (S := S2048x64) zeros inb v

theorem whole_1x64 (v : Vec F S1x64 .f32) (inb : ∀ a, (![0, 0] : Fin 2 → ℕ) a + (![1, 64] : Fin 2 → ℕ) a ≤ S1x64.size a) :
    View.ld v (Rect.unit (s := S1x64) ![0, 0] ![1, 64] inb) = v := View.ld_unit_zero (S := S1x64) zeros inb v

/-- The four quarters of the weights as copied, newest first: rows 3072 on, 2048 on, 1024 on and 0 on. -/
abbrev quarters (g : BufTy.Contents (Elt F) (Memref.whole main_arg1).view.ty) : List (View.Piece (Elt F) S4096x2048 .f32) :=
  [⟨Rect.unit (s := S4096x2048) ![3072, 0] S1024x2048.size inb_S4096x2048_S1024x2048_3072_0, ReadAs.same.apply (View.read (Elt F)
      ((Memref.whole main_arg1).slice (Rect.unit (s := S4096x2048) ![3072, 0] S1024x2048.size inb_S4096x2048_S1024x2048_3072_0) (fun _ => rfl)).view g)⟩,
   ⟨Rect.unit (s := S4096x2048) ![2048, 0] S1024x2048.size inb_S4096x2048_S1024x2048_2048_0, ReadAs.same.apply (View.read (Elt F)
      ((Memref.whole main_arg1).slice (Rect.unit (s := S4096x2048) ![2048, 0] S1024x2048.size inb_S4096x2048_S1024x2048_2048_0) (fun _ => rfl)).view g)⟩,
   ⟨Rect.unit (s := S4096x2048) ![1024, 0] S1024x2048.size inb_S4096x2048_S1024x2048_1024_0, ReadAs.same.apply (View.read (Elt F)
      ((Memref.whole main_arg1).slice (Rect.unit (s := S4096x2048) ![1024, 0] S1024x2048.size inb_S4096x2048_S1024x2048_1024_0) (fun _ => rfl)).view g)⟩,
   ⟨Rect.unit (s := S4096x2048) ![0, 0] S1024x2048.size inb_S4096x2048_S1024x2048_0_0, ReadAs.same.apply (View.read (Elt F)
      ((Memref.whole main_arg1).slice (Rect.unit (s := S4096x2048) ![0, 0] S1024x2048.size inb_S4096x2048_S1024x2048_0_0) (fun _ => rfl)).view g)⟩]

/-- A buffer the four quarters were written to holds all the weights, whatever it held before. -/
theorem read_quarters (v : View sig .tc .vmem S4096x2048 .f32) (f : v.ty.Contents (Elt F)) (g : BufTy.Contents (Elt F) (Memref.whole main_arg1).view.ty) :
    v.read (Elt F) (v.writes (Elt F) f (quarters g)) = View.read (Elt F) (View.whole main_arg1) g := by
  funext y
  exact View.read_writes_apply_of_pieces v f (View.read (Elt F) (View.whole main_arg1) g) (quarters g)
    (View.PiecesOf.mem ⟨fun _ => rfl, fun _ => rfl, fun _ => rfl, fun _ => rfl, trivial⟩) y
    (View.cover_of_tiledL (quarters g) ![1024, 2048] (by sl_kernel_rfl) y)

/-- A load after the four quarters were written reads the weights there. -/
theorem load_quarters (v : View sig .tc .vmem S4096x2048 .f32) (g : BufTy.Contents (Elt F) (Memref.whole main_arg1).view.ty) (r : Rect S4096x2048) :
    v.readCov (quarters g) r.toLoadRect = View.ld (View.read (Elt F) (View.whole main_arg1) g) r := by
  unfold View.readCov
  rw [View.readAt_eq_ld, read_quarters]
  rfl

set_option maxHeartbeats 1000000 in
/-- A point between the first and the last: scores and indices from the block and the copied weights, the running sum
    moved on, the loss's buffer untouched. -/
theorem run_later (c : Dev nD) (i : grid0.Coords) (arg1 : Memref sig .tc .vmem S512x4096 .f32) (harg1 : arg1.IsWhole)
    (arg3 : Memref sig .tc .vmem S1x2048 .f32) (harg3 : arg3.IsWhole) (arg4 : Memref sig .tc .vmem S2048x64 .f32) (harg4 : arg4.IsWhole)
    (arg5 : Memref sig .tc .vmem S512x2 .f32) (harg5 : arg5.IsWhole) (arg6 : Memref sig .tc .vmem S512x2 .i32) (harg6 : arg6.IsWhole)
    (arg7 : Memref sig .tc .vmem S1x1 .f32) (harg7 : arg7.IsWhole) (arg8 : Memref sig .tc .vmem S4096x2048 .f32) (harg8 : arg8.IsWhole)
    (arg9 : Memref sig .tc .vmem S1x64 .f32) (harg9 : arg9.IsWhole)
    (h1 : ¬ k0_cond1 i = 1#1) (h2 : k0_cond2 i = 1#1) (h3 : ¬ k0_cond3 i = 1#1)
    (x : Vec F S512x4096 .f32) (b : Vec F S1x2048 .f32) (u : Vec F S2048x64 .f32) (w : Vec F S4096x2048 .f32) (a : Vec F S1x64 .f32)
    (l : Vec F S1x1 .f32) (W : Waits sig Unit) (K : PUnit → sProp 𝕄) :
    iprop(owns (c : Thread nD τ) arg1 fullShare x ∗ owns (c : Thread nD τ) arg3 fullShare b ∗ owns (c : Thread nD τ) arg4 fullShare u ∗ (∃ d, owns (c : Thread nD τ) arg5 fullShare d) ∗ (∃ d, owns (c : Thread nD τ) arg6 fullShare d) ∗ owns (c : Thread nD τ) arg7 fullShare l
        ∗ owns (c : Thread nD τ) arg8 fullShare w ∗ owns (c : Thread nD τ) arg9 fullShare a ∗ owes (c : Thread nD τ) 0 W
        ∗ (iprop(owns (c : Thread nD τ) arg1 fullShare x ∗ owns (c : Thread nD τ) arg3 fullShare b ∗ owns (c : Thread nD τ) arg4 fullShare u ∗ owns (c : Thread nD τ) arg5 fullShare (laterScores x w b u) ∗ owns (c : Thread nD τ) arg6 fullShare (laterIdx x w b u)
            ∗ owns (c : Thread nD τ) arg7 fullShare l ∗ owns (c : Thread nD τ) arg8 fullShare w ∗ owns (c : Thread nD τ) arg9 fullShare (laterSum x w b u i a) ∗ (∃ W', owes (c : Thread nD τ) 0 W')) -∗ K ⟨⟩))
      ⊢ wp frame (wpE (defs₀ (F := F)) Variants.none c none) Set.univ (cc0__gate_kernel i arg1 harg1 (Memref.whole main_arg1) (Memref.isWhole_whole _) arg3 harg3 arg4 harg4 arg5 harg5 arg6 harg6 arg7 harg7 arg8 harg8 arg9 harg9 cc0_scratch2) K := by
  simp only [cc0__gate_kernel_eq_skeleton]; unfold cc0__gate_kernel_skel
  simp only [k0_part4_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%fs0, %hfs0, HS0⟩, ⟨%fs1, %hfs1, HS1⟩, HW, Hk⟩
  obtain rfl := harg1.eq_unread hf0; obtain rfl := harg3.eq_unread hf1; obtain rfl := harg4.eq_unread hf2; obtain rfl := harg7.eq_unread hf5; obtain rfl := harg8.eq_unread hfs0; obtain rfl := harg9.eq_unread hfs1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    sl_unfold_run_names
    simp only [View.readAt_eq_ld, harg1.read_unread, harg3.read_unread, harg4.read_unread, harg8.read_unread, harg9.read_unread, whole_512x4096, whole_4096x2048, whole_1x2048, whole_2048x64, whole_1x64]
    rfl
  isplitl [H4]
  · iexists _; isplitr
    swap; · iexact H4
    ipureintro
    refine (View.read_writes_full _ _ _ _ _).trans ?_
    sl_unfold_run_names
    simp only [View.readAt_eq_ld, harg1.read_unread, harg3.read_unread, harg4.read_unread, harg8.read_unread, harg9.read_unread, whole_512x4096, whole_4096x2048, whole_1x2048, whole_2048x64, whole_1x64]
    rfl
  isplitl [H5]
  · iexists _; isplitr; · ipureintro; exact harg7.read_unread _
    iexact H5
  isplitl [HS0]
  · iexists _; isplitr; · ipureintro; exact harg8.read_unread _
    iexact HS0
  isplitl [HS1]
  · iexists _; isplitr
    swap; · iexact HS1
    ipureintro
    refine (View.read_writes_full _ _ _ _ _).trans ?_
    sl_unfold_run_names
    simp only [View.readAt_eq_ld, harg1.read_unread, harg3.read_unread, harg4.read_unread, harg8.read_unread, harg9.read_unread, whole_512x4096, whole_4096x2048, whole_1x2048, whole_2048x64, whole_1x64]
    rfl
  iexists _; iexact HW

set_option maxHeartbeats 1000000 in
/-- The last point: as a later one, and the loss is read off the running sum. -/
theorem run_last (c : Dev nD) (i : grid0.Coords) (arg1 : Memref sig .tc .vmem S512x4096 .f32) (harg1 : arg1.IsWhole)
    (arg3 : Memref sig .tc .vmem S1x2048 .f32) (harg3 : arg3.IsWhole) (arg4 : Memref sig .tc .vmem S2048x64 .f32) (harg4 : arg4.IsWhole)
    (arg5 : Memref sig .tc .vmem S512x2 .f32) (harg5 : arg5.IsWhole) (arg6 : Memref sig .tc .vmem S512x2 .i32) (harg6 : arg6.IsWhole)
    (arg7 : Memref sig .tc .vmem S1x1 .f32) (harg7 : arg7.IsWhole) (arg8 : Memref sig .tc .vmem S4096x2048 .f32) (harg8 : arg8.IsWhole)
    (arg9 : Memref sig .tc .vmem S1x64 .f32) (harg9 : arg9.IsWhole)
    (h1 : ¬ k0_cond1 i = 1#1) (h2 : k0_cond2 i = 1#1) (h3 : k0_cond3 i = 1#1)
    (x : Vec F S512x4096 .f32) (b : Vec F S1x2048 .f32) (u : Vec F S2048x64 .f32) (w : Vec F S4096x2048 .f32) (a : Vec F S1x64 .f32)
    (W : Waits sig Unit) (K : PUnit → sProp 𝕄) :
    iprop(owns (c : Thread nD τ) arg1 fullShare x ∗ owns (c : Thread nD τ) arg3 fullShare b ∗ owns (c : Thread nD τ) arg4 fullShare u ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare w ∗ owns (c : Thread nD τ) arg9 fullShare a ∗ owes (c : Thread nD τ) 0 W
        ∗ (iprop(owns (c : Thread nD τ) arg1 fullShare x ∗ owns (c : Thread nD τ) arg3 fullShare b ∗ owns (c : Thread nD τ) arg4 fullShare u ∗ owns (c : Thread nD τ) arg5 fullShare (laterScores x w b u) ∗ owns (c : Thread nD τ) arg6 fullShare (laterIdx x w b u)
            ∗ owns (c : Thread nD τ) arg7 fullShare (k0_pay7 (laterSum x w b u i a)) ∗ owns (c : Thread nD τ) arg8 fullShare w ∗ owns (c : Thread nD τ) arg9 fullShare (laterSum x w b u i a) ∗ (∃ W', owes (c : Thread nD τ) 0 W')) -∗ K ⟨⟩))
      ⊢ wp frame (wpE (defs₀ (F := F)) Variants.none c none) Set.univ (cc0__gate_kernel i arg1 harg1 (Memref.whole main_arg1) (Memref.isWhole_whole _) arg3 harg3 arg4 harg4 arg5 harg5 arg6 harg6 arg7 harg7 arg8 harg8 arg9 harg9 cc0_scratch2) K := by
  simp only [cc0__gate_kernel_eq_skeleton]; unfold cc0__gate_kernel_skel
  simp only [k0_part4_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, HW, Hk⟩
  obtain rfl := harg1.eq_unread hf0; obtain rfl := harg3.eq_unread hf1; obtain rfl := harg4.eq_unread hf2; obtain rfl := harg8.eq_unread hfs0; obtain rfl := harg9.eq_unread hfs1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    sl_unfold_run_names
    simp only [View.readAt_eq_ld, harg1.read_unread, harg3.read_unread, harg4.read_unread, harg8.read_unread, harg9.read_unread, whole_512x4096, whole_4096x2048, whole_1x2048, whole_2048x64, whole_1x64]
    rfl
  isplitl [H4]
  · iexists _; isplitr
    swap; · iexact H4
    ipureintro
    refine (View.read_writes_full _ _ _ _ _).trans ?_
    sl_unfold_run_names
    simp only [View.readAt_eq_ld, harg1.read_unread, harg3.read_unread, harg4.read_unread, harg8.read_unread, harg9.read_unread, whole_512x4096, whole_4096x2048, whole_1x2048, whole_2048x64, whole_1x64]
    rfl
  isplitl [H5]
  · iexists _; isplitr
    swap; · iexact H5
    ipureintro
    refine (View.read_writes_full _ _ _ _ _).trans ?_
    sl_unfold_run_names
    refine congrArg _ ((View.readCov_full _ _ _ _ _).trans ?_)
    simp only [View.readAt_eq_ld, harg1.read_unread, harg3.read_unread, harg4.read_unread, harg8.read_unread, harg9.read_unread, whole_512x4096, whole_4096x2048, whole_1x2048, whole_2048x64, whole_1x64]
    rfl
  isplitl [HS0]
  · iexists _; isplitr; · ipureintro; exact harg8.read_unread _
    iexact HS0
  isplitl [HS1]
  · iexists _; isplitr
    swap; · iexact HS1
    ipureintro
    refine (View.read_writes_full _ _ _ _ _).trans ?_
    sl_unfold_run_names
    simp only [View.readAt_eq_ld, harg1.read_unread, harg3.read_unread, harg4.read_unread, harg8.read_unread, harg9.read_unread, whole_512x4096, whole_4096x2048, whole_1x2048, whole_2048x64, whole_1x64]
    rfl
  iexists _; iexact HW

set_option sl_exec.dmaWindow true in
set_option sl_exec.dmaWindowSet true in
set_option maxHeartbeats 1000000 in
/-- The first point: the weights are copied in four transfers, each awaited before its quarter is used; the scratch
    holds all of them after. -/
theorem run_first (c : Dev nD) (i : grid0.Coords) (arg1 : Memref sig .tc .vmem S512x4096 .f32) (harg1 : arg1.IsWhole)
    (arg3 : Memref sig .tc .vmem S1x2048 .f32) (harg3 : arg3.IsWhole) (arg4 : Memref sig .tc .vmem S2048x64 .f32) (harg4 : arg4.IsWhole)
    (arg5 : Memref sig .tc .vmem S512x2 .f32) (harg5 : arg5.IsWhole) (arg6 : Memref sig .tc .vmem S512x2 .i32) (harg6 : arg6.IsWhole)
    (arg7 : Memref sig .tc .vmem S1x1 .f32) (harg7 : arg7.IsWhole) (arg8 : Memref sig .tc .vmem S4096x2048 .f32) (harg8 : arg8.IsWhole)
    (arg9 : Memref sig .tc .vmem S1x64 .f32) (harg9 : arg9.IsWhole)
    (h1 : k0_cond1 i = 1#1) (h2 : ¬ k0_cond2 i = 1#1) (h3 : ¬ k0_cond3 i = 1#1)
    (x : Vec F S512x4096 .f32) (b : Vec F S1x2048 .f32) (u : Vec F S2048x64 .f32) (fh0 : HbBuf0 (F := F) c hbM0_0) (a : Vec F S1x64 .f32)
    (l : Vec F S1x1 .f32) (W : Waits sig Unit) (K : PUnit → sProp 𝕄) :
    iprop(owns (c : Thread nD τ) arg1 fullShare x ∗ owns (c : Thread nD τ) arg3 fullShare b ∗ owns (c : Thread nD τ) arg4 fullShare u ∗ (∃ d, owns (c : Thread nD τ) arg5 fullShare d) ∗ (∃ d, owns (c : Thread nD τ) arg6 fullShare d) ∗ owns (c : Thread nD τ) arg7 fullShare l
        ∗ (∃ d, owns (c : Thread nD τ) arg8 fullShare d) ∗ owns (c : Thread nD τ) arg9 fullShare a ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ owes (c : Thread nD τ) 0 W
        ∗ (iprop(owns (c : Thread nD τ) arg1 fullShare x ∗ owns (c : Thread nD τ) arg3 fullShare b ∗ owns (c : Thread nD τ) arg4 fullShare u ∗ owns (c : Thread nD τ) arg5 fullShare (firstScores x (hbM0_0.view.read (Elt F) fh0) b u) ∗ owns (c : Thread nD τ) arg6 fullShare (firstIdx x (hbM0_0.view.read (Elt F) fh0) b u)
            ∗ owns (c : Thread nD τ) arg7 fullShare l ∗ owns (c : Thread nD τ) arg8 fullShare (hbM0_0.view.read (Elt F) fh0) ∗ owns (c : Thread nD τ) arg9 fullShare (firstSum x (hbM0_0.view.read (Elt F) fh0) b u i a) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
      ⊢ wp frame (wpE (defs₀ (F := F)) Variants.none c none) Set.univ (cc0__gate_kernel i arg1 harg1 (Memref.whole main_arg1) (Memref.isWhole_whole _) arg3 harg3 arg4 harg4 arg5 harg5 arg6 harg6 arg7 harg7 arg8 harg8 arg9 harg9 cc0_scratch2) K := by
  simp only [cc0__gate_kernel_eq_skeleton]; unfold cc0__gate_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%ds0, %fs0, -, HS0⟩, ⟨%fs1, %hfs1, HS1⟩, Hq0, Hq1, Hq2, Hq3, Hh0, HW, Hk⟩
  obtain rfl := harg1.eq_unread hf0; obtain rfl := harg3.eq_unread hf1; obtain rfl := harg4.eq_unread hf2; obtain rfl := harg7.eq_unread hf5; obtain rfl := harg9.eq_unread hfs1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    sl_unfold_run_names
    rw [load_quarters, load_quarters, load_quarters, load_quarters]
    simp only [View.readAt_eq_ld, harg1.read_unread, harg3.read_unread, harg4.read_unread, harg9.read_unread, whole_1x2048, whole_2048x64, whole_1x64]
    rfl
  isplitl [H4]
  · iexists _; isplitr
    swap; · iexact H4
    ipureintro
    refine (View.read_writes_full _ _ _ _ _).trans ?_
    sl_unfold_run_names
    rw [load_quarters, load_quarters, load_quarters, load_quarters]
    simp only [View.readAt_eq_ld, harg1.read_unread, harg3.read_unread, harg4.read_unread, harg9.read_unread, whole_1x2048, whole_2048x64, whole_1x64]
    rfl
  isplitl [H5]
  · iexists _; isplitr; · ipureintro; exact harg7.read_unread _
    iexact H5
  isplitl [HS0]
  · iexists _; isplitr
    swap; · iexact HS0
    ipureintro
    exact read_quarters _ _ _
  isplitl [HS1]
  · iexists _; isplitr
    swap; · iexact HS1
    ipureintro
    refine (View.read_writes_full _ _ _ _ _).trans ?_
    sl_unfold_run_names
    rw [load_quarters, load_quarters, load_quarters, load_quarters]
    simp only [View.readAt_eq_ld, harg1.read_unread, harg3.read_unread, harg4.read_unread, harg9.read_unread, whole_1x2048, whole_2048x64, whole_1x64]
    rfl
  isplitl [Hq0]; · iexact Hq0
  isplitl [Hq1]; · iexact Hq1
  isplitl [Hq2]; · iexact Hq2
  isplitl [Hq3]; · iexact Hq3
  isplitl [Hh0]; · iexact Hh0
  iexists _; iexact HW

end Cert.KernelIdeal.Fused

end
-- ==== Proof.FusedIdeal.Launch.lean ====
module

public import proofs.«01_k».proof.Proof.FusedIdeal.Body
public import Idealize.ShloMosaic.Lib.Claim

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch leaves at each point -/

/-- The first point's running sum does not read what the buffer held before. -/
theorem firstSum_any (x : Vec F S512x4096 .f32) (w : Vec F S4096x2048 .f32) (b : Vec F S1x2048 .f32) (u : Vec F S2048x64 .f32)
    {i : grid0.Coords} (hi : (i 0).val = 0) (a a' : Vec F S1x64 .f32) : firstSum x w b u i a = firstSum x w b u i a' := by
  unfold firstSum k0_pay3
  simp only [hi]
  rfl

theorem coord_zero : ∀ t : Fin cfg0.N, t.val = 0 → (grid0.coords t 0).val = 0 := by decide +kernel

/-- The weights as launched. -/
def wts (c : Dev nD) : Vec F S4096x2048 .f32 := hbM0_0.view.read (Elt F) (V m c main_arg1)

/-- The three blocks a point reads: rows of the input, the bias, the second weights. -/
def xB (c : Dev nD) (t : Fin cfg0.N) : Vec F S512x4096 .f32 := iblk m c 0 t
def bB (c : Dev nD) (t : Fin cfg0.N) : Vec F S1x2048 .f32 := iblk m c 1 t
def uB (c : Dev nD) (t : Fin cfg0.N) : Vec F S2048x64 .f32 := iblk m c 2 t

/-- The scores, -/
def scoresAt (c : Dev nD) (t : Fin cfg0.N) : Vec F S512x2 .f32 :=
  if t.val = 0 then firstScores (xB m c t) (wts m c) (bB m c t) (uB m c t) else laterScores (xB m c t) (wts m c) (bB m c t) (uB m c t)
/-- the indices -/
def idxAt (c : Dev nD) (t : Fin cfg0.N) : Vec F S512x2 .i32 :=
  if t.val = 0 then firstIdx (xB m c t) (wts m c) (bB m c t) (uB m c t) else laterIdx (xB m c t) (wts m c) (bB m c t) (uB m c t)
/-- and the running sum after point `n`. -/
def sumAfter (c : Dev nD) : (n : ℕ) → n < cfg0.N → Vec F S1x64 .f32
  | 0, h => firstSum (xB m c ⟨0, h⟩) (wts m c) (bB m c ⟨0, h⟩) (uB m c ⟨0, h⟩) (grid0.coords ⟨0, h⟩) (broadcast S1x64 (Scalar.ofBits .f32 0x00000000#32))
  | n + 1, h => laterSum (xB m c ⟨n + 1, h⟩) (wts m c) (bB m c ⟨n + 1, h⟩) (uB m c ⟨n + 1, h⟩) (grid0.coords ⟨n + 1, h⟩) (sumAfter c n (Nat.lt_of_succ_lt h))

/-- The carried buffers before point `n`: anything at first, then the weights and the sum so far. -/
def PhiS (c : Dev nD) : (n : ℕ) → n ≤ cfg0.N → sProp 𝕄
  | 0, _ => Pipeline.ΦD osem0 spec0 H0 (V m) c
  | n + 1, h => iprop(iprop(owns (c : Thread nD τ) scM0_0 fullShare (wts m c) ∗ owns (c : Thread nD τ) scM0_1 fullShare (sumAfter m c n h)) ∗ (∃ r, prngReg c r)
      ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
      ∗ iprop(hbPt0 c hbM0_0 (V m c main_arg1)))

theorem PhiS_zero (c : Dev nD) (h) : PhiS m c 0 h = Pipeline.ΦD osem0 spec0 H0 (V m) c := rfl
theorem PhiS_succ (c : Dev nD) (n : ℕ) (h) : PhiS m c (n + 1) h
    = iprop(iprop(owns (c : Thread nD τ) scM0_0 fullShare (wts m c) ∗ owns (c : Thread nD τ) scM0_1 fullShare (sumAfter m c n h)) ∗ (∃ r, prngReg c r)
      ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
      ∗ iprop(hbPt0 c hbM0_0 (V m c main_arg1))) := rfl
theorem sumAfter_zero (c : Dev nD) (h) : sumAfter m c 0 h
    = firstSum (xB m c ⟨0, h⟩) (wts m c) (bB m c ⟨0, h⟩) (uB m c ⟨0, h⟩) (grid0.coords ⟨0, h⟩) (broadcast S1x64 (Scalar.ofBits .f32 0x00000000#32)) := rfl
theorem sumAfter_succ (c : Dev nD) (n : ℕ) (h) : sumAfter m c (n + 1) h
    = laterSum (xB m c ⟨n + 1, h⟩) (wts m c) (bB m c ⟨n + 1, h⟩) (uB m c ⟨n + 1, h⟩) (grid0.coords ⟨n + 1, h⟩) (sumAfter m c n (Nat.lt_of_succ_lt h)) := rfl

/-- The launch's proof data: inputs left as they are, outputs at the values above, the carried buffers between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => scoresAt m c t
    | ⟨4, _⟩ => idxAt m c t
    | ⟨5, _⟩ => k0_pay7 (sumAfter m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = xB m c t := by dsimp only [dats]; rfl
theorem after1 (c : Dev nD) (t : Fin cfg0.N) : (dats m 0 c).after 1 t = bB m c t := by dsimp only [dats]; rfl
theorem after2 (c : Dev nD) (t : Fin cfg0.N) : (dats m 0 c).after 2 t = uB m c t := by dsimp only [dats]; rfl
theorem after3 (c : Dev nD) (t : Fin cfg0.N) : (dats m 0 c).after 3 t = scoresAt m c t := by dsimp only [dats]
theorem after4 (c : Dev nD) (t : Fin cfg0.N) : (dats m 0 c).after 4 t = idxAt m c t := by dsimp only [dats]
theorem after5 (c : Dev nD) (t : Fin cfg0.N) : (dats m 0 c).after 5 t = k0_pay7 (sumAfter m c t.val t.isLt) := by dsimp only [dats]
theorem before0 (c : Dev nD) (t : Fin cfg0.N) (d) : (dats m 0 c).before 0 t d = xB m c t := before0_0_of m (dats m 0 c) (A_eq m c 0) (after0 m c) t d
theorem before1 (c : Dev nD) (t : Fin cfg0.N) (d) : (dats m 0 c).before 1 t d = bB m c t := before0_1_of m (dats m 0 c) (A_eq m c 1) (after1 m c) t d
theorem before2 (c : Dev nD) (t : Fin cfg0.N) (d) : (dats m 0 c).before 2 t d = uB m c t := before0_2_of m (dats m 0 c) (A_eq m c 2) (after2 m c) t d

/-- A window written at a point leaves what the proof data says. -/
theorem left (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-! ## The body at a point -/

/-- The body at a point, over the point's staging buffers. -/
def bodyAt0 (t : Fin cfg0.N) : Prog (TpuEff nD τ sig (Elt F) Λ₀ .tc) PUnit :=
  cc0__gate_kernel (F := F) (grid0.coords t) (ms0_0 t) (hs0_0 t) (Memref.whole main_arg1) (Memref.isWhole_whole _) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _) cc0_scratch2

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
theorem sound_first (c : Dev nD) (t : Fin cfg0.N) (h : t.val = 0) :
    bodyPre m c t ⊢ wp frame (wpE (defs₀ (F := F)) Variants.none c none) Set.univ (bodyAt0 t) (fun _ => bodyPost m c t) := by
  have h5 : t.val ≠ 15 := by omega
  unfold bodyPre bodyPost bodyAt0
  simp only [before0, before1, before2]
  rw [show (dats m 0 c).Φ t.succ = PhiS m c (t.val + 1) t.isLt from rfl, PhiS_castSucc m c t]
  unfold Dat.owesAt Pipeline.owesWithin
  rw [show (dats m 0 c).owed t.castSucc = 0 from rfl, show (dats m 0 c).owed t.succ = 0 from rfl]
  rw [left m c 0 t (live0 t), left m c 1 t (live1 t), left m c 2 t (live2 t), left m c 3 t (live3 t), left m c 4 t (live4 t),
    after0, after1, after2, after3, after4]
  rw [Dat.leavesExact_idle (dats m 0 c) 5 t (idle5 t h5) (noFlush5 t h5)]
  obtain ⟨n, hn⟩ := t
  obtain rfl : n = 0 := h
  unfold scoresAt idxAt
  rw [if_pos rfl, if_pos rfl]
  dsimp only
  rw [PhiS_zero, PhiD0_eq, PhiS_succ, sumAfter_zero]
  iintro ⟨⟨⟨HS0, ⟨%ds1, HS1⟩⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩⟩
  rw [firstSum_any _ _ _ _ (coord_zero ⟨0, hn⟩ rfl) _ ds1]
  iapply (run_first c (grid0.coords ⟨0, hn⟩) _ _ _ _ _ _ _ _ _ _ _ _ scM0_0 (Memref.isWhole_whole _) scM0_1 (Memref.isWhole_whole _) ((first_iff _).mpr rfl) (fun h => (later_iff ⟨0, hn⟩).mp h rfl) (fun h => h5 ((last_iff ⟨0, hn⟩).mp h))
    (xB m c ⟨0, hn⟩) (bB m c ⟨0, hn⟩) (uB m c ⟨0, hn⟩) (V m c main_arg1) ds1 _ W _)
  isplitl [H0]; · iexact H0
  isplitl [H1]; · iexact H1
  isplitl [H2]; · iexact H2
  isplitl [H3]; · iexists _; iexact H3
  isplitl [H4]; · iexists _; iexact H4
  isplitl [H5]; · iexact H5
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hh0]; · iexact Hh0
  isplitl [HW]; · iexact HW
  iintro ⟨H0, H1, H2, H3, H4, H5, HS0, HS1, Hq0, Hq1, Hq2, Hq3, Hh0, ⟨%W', HW'⟩⟩
  isplitl [HS0 HS1 Hg Hq0 Hq1 Hq2 Hq3 Hh0]
  · isplitl [HS0 HS1]
    · isplitl [HS0]; · iexact HS0
      iexact HS1
    isplitl [Hg]; · iexact Hg
    isplitl [Hq0 Hq1 Hq2 Hq3]
    · isplitl [Hq0]; · iexact Hq0
      isplitl [Hq1]; · iexact Hq1
      isplitl [Hq2]; · iexact Hq2
      iexact Hq3
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexists _; iexact H5

set_option maxHeartbeats 1600000 in
theorem sound_later (c : Dev nD) (t : Fin cfg0.N) (h : t.val ≠ 0) (h5 : t.val ≠ 15) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = PhiS m c (t.val + 1) t.isLt from rfl, PhiS_castSucc m c t]
  unfold Dat.owesAt Pipeline.owesWithin
  rw [show (dats m 0 c).owed t.castSucc = 0 from rfl, show (dats m 0 c).owed t.succ = 0 from rfl]
  rw [left m c 0 t (live0 t), left m c 1 t (live1 t), left m c 2 t (live2 t), left m c 3 t (live3 t), left m c 4 t (live4 t),
    after0, after1, after2, after3, after4]
  rw [Dat.leavesExact_idle (dats m 0 c) 5 t (idle5 t h5) (noFlush5 t h5)]
  obtain ⟨n, hn⟩ := t
  cases n with
  | zero => exact absurd rfl h
  | succ n => ?_
  unfold scoresAt idxAt
  rw [if_neg h, if_neg h]
  dsimp only
  rw [PhiS_succ, PhiS_succ, sumAfter_succ]
  iintro ⟨⟨⟨HS0, HS1⟩, Hg, Hq, Hh0⟩, ⟨%W, -, HW⟩, ⟨%d0, H0⟩, ⟨%d1, H1⟩, ⟨%d2, H2⟩, ⟨%d3, H3⟩, ⟨%d4, H4⟩, ⟨%d5, H5⟩⟩
  iapply (run_later c (grid0.coords ⟨n + 1, hn⟩) _ _ _ _ _ _ _ _ _ _ _ _ scM0_0 (Memref.isWhole_whole _) scM0_1 (Memref.isWhole_whole _) (fun h' => h ((first_iff ⟨n + 1, hn⟩).mp h')) ((later_iff ⟨n + 1, hn⟩).mpr h) (fun h' => h5 ((last_iff ⟨n + 1, hn⟩).mp h'))
    (xB m c ⟨n + 1, hn⟩) (bB m c ⟨n + 1, hn⟩) (uB m c ⟨n + 1, hn⟩) (wts m c) (sumAfter m c n (Nat.lt_of_succ_lt hn)) _ W _)
  isplitl [H0]; · iexact H0
  isplitl [H1]; · iexact H1
  isplitl [H2]; · iexact H2
  isplitl [H3]; · iexists _; iexact H3
  isplitl [H4]; · iexists _; iexact H4
  isplitl [H5]; · iexact H5
  isplitl [HS0]; · iexact HS0
  isplitl [HS1]; · iexact HS1
  isplitl [HW]; · iexact HW
  iintro ⟨H0, H1, H2, H3, H4, H5, HS0, HS1, ⟨%W', HW'⟩⟩
  isplitl [HS0 HS1 Hg Hq Hh0]
  · isplitl [HS0 HS1]
    · isplitl [HS0]; · iexact HS0
      iexact HS1
    isplitl [Hg]; · iexact Hg
    isplitl [Hq]; · iexact Hq
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexists _; iexact H5

set_option maxHeartbeats 1600000 in
theorem sound_last (c : Dev nD) (t : Fin cfg0.N) (h : t.val ≠ 0) (h5 : t.val = 15) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = PhiS m c (t.val + 1) t.isLt from rfl, PhiS_castSucc m c t]
  unfold Dat.owesAt Pipeline.owesWithin
  rw [show (dats m 0 c).owed t.castSucc = 0 from rfl, show (dats m 0 c).owed t.succ = 0 from rfl]
  rw [left m c 0 t (live0 t), left m c 1 t (live1 t), left m c 2 t (live2 t), left m c 3 t (live3 t), left m c 4 t (live4 t),
    after0, after1, after2, after3, after4]
  rw [left m c 5 t (live5 t h5), after5]
  obtain ⟨n, hn⟩ := t
  cases n with
  | zero => exact absurd rfl h
  | succ n => ?_
  unfold scoresAt idxAt
  rw [if_neg h, if_neg h]
  dsimp only
  rw [PhiS_succ, PhiS_succ, sumAfter_succ]
  iintro ⟨⟨⟨HS0, HS1⟩, Hg, Hq, Hh0⟩, ⟨%W, -, HW⟩, ⟨%d0, H0⟩, ⟨%d1, H1⟩, ⟨%d2, H2⟩, ⟨%d3, H3⟩, ⟨%d4, H4⟩, ⟨%d5, H5⟩⟩
  iapply (run_last c (grid0.coords ⟨n + 1, hn⟩) _ _ _ _ _ _ _ _ _ _ _ _ scM0_0 (Memref.isWhole_whole _) scM0_1 (Memref.isWhole_whole _) (fun h' => h ((first_iff ⟨n + 1, hn⟩).mp h')) ((later_iff ⟨n + 1, hn⟩).mpr h) ((last_iff ⟨n + 1, hn⟩).mpr h5)
    (xB m c ⟨n + 1, hn⟩) (bB m c ⟨n + 1, hn⟩) (uB m c ⟨n + 1, hn⟩) (wts m c) (sumAfter m c n (Nat.lt_of_succ_lt hn)) W _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HW]; · iexact HW
  iintro ⟨H0, H1, H2, H3, H4, H5, HS0, HS1, ⟨%W', HW'⟩⟩
  isplitl [HS0 HS1 Hg Hq Hh0]
  · isplitl [HS0 HS1]
    · isplitl [HS0]; · iexact HS0
      iexact HS1
    isplitl [Hg]; · iexact Hg
    isplitl [Hq]; · iexact Hq
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body at any point, by the three cases. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_first m c t h
  by_cases h5 : t.val = 15
  · exact sound_last m c t h h5
  · exact sound_later m c t h h5

/-- The body table's row at a point is the body as `bodyAt0` spells it. -/
theorem defs₀_row (t : Fin cfg0.N) :
    defs₀ (F := F) .tc cfg0.body (cfg0.bodyArgs t (cfg0.slots t)) = bodyAt0 t := by
  unfold defs₀; rw [Defs.onTc_tc]; rfl

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = Pipeline.ΦD osem0 spec0 H0 (V m) c from rfl]

/-- After the last point the carried buffers' contents are forgotten. -/
theorem hout (c : Dev nD) : (dats m 0 c).Φ (Fin.last cfg0.N) ⊢ Pipeline.ΦD osem0 spec0 H0 (V m) c := by
  rw [show (dats m 0 c).Φ (Fin.last cfg0.N) = PhiS m c (15 + 1) (le_of_eq N_0.symm) from rfl, PhiD0_eq]
  rw [PhiS_succ]
  iintro ⟨⟨HS0, HS1⟩, Hg, Hq, Hh0⟩
  isplitl [HS0 HS1]
  · isplitl [HS0]
    · iexists _; iexact HS0
    iexists _; iexact HS1
  isplitl [Hg]; · iexact Hg
  isplitl [Hq]; · iexact Hq
  iexact Hh0

/-! ## The run -/

set_option backward.isDefEq.respectTransparency.types false in
set_option maxHeartbeats 800000 in
/-- The launch: every array of it ends at what the proof data says, every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.KernelIdeal.Fused

end
-- ==== Proof.Value.Row.lean ====
module

public import Idealize.ShloMosaic.Lib.SortPrefix
public import Idealize.ShloMosaic.Lib.Pointwise

@[expose] public section

set_option maxRecDepth 16384

noncomputable section

namespace Cert.Rows

open Idealize.ShloMosaic Idealize.ShloMosaic.TcCoe

/-! # One row of gates: its two largest entries, as the kernel finds them and as a stable sort does

A row is a function of the 64 experts. -/

/-- A row of extended reals, one per expert. -/
abbrev Row := Fin 64 → EReal

/-- The pattern the kernel and the reference start a maximum from is minus infinity. -/
theorem negInf_eq : Ideal.ofBits .f32 0xFF800000#32 = ⊥ := by simp [Ideal.ofBits, Ideal.ieee]

/-- The largest entry of a row. -/
def top (s : Row) : EReal := Finset.univ.fold max (Ideal.ofBits .f32 0xFF800000#32) s

/-- The first position of the largest entry, as the kernel computes it: the least of the positions where the row equals
    its maximum. -/
def spot (s : Row) : BitVec 32 :=
  Finset.univ.fold IntOp.minsi 2147483647#32 fun x : Fin 64 => if s x = top s then BitVec.ofNat 32 ↑x else 64#32

/-- The row with its first largest entry struck out. -/
def rest (s : Row) : Row := fun x =>
  Scalar.select (IntOp.cmpi .eq (BitVec.ofNat 32 ↑x) (spot s)) (Ideal.ofBits .f32 0xFF800000#32) (s x)

/-- The softmax of a row. -/
def gate (l : Row) : Row := fun j => Ideal.div (Ideal.exp (l j - top l)) (∑ k, Ideal.exp (l k - top l))

/-- The weight of the second entry against the first, before the two are normalised. -/
def ratio (s : Row) : EReal := Ideal.exp (top (rest s) - top s)

/-- The two normalised weights of a row. -/
def weight (s : Row) (j : Fin 2) : EReal :=
  if (j : ℕ) < 1 then Ideal.div 1 (1 + ratio s) else Ideal.div (ratio s) (1 + ratio s)

/-- The two chosen experts of a row. -/
def choice (s : Row) (j : Fin 2) : BitVec 32 := if (j : ℕ) < 1 then spot s else spot (rest s)

/-! ## The first largest entry -/

theorem le_top (s : Row) (k : Fin 64) : s k ≤ top s :=
  (Finset.le_fold_max _).mpr (Or.inr ⟨k, Finset.mem_univ k, le_rfl⟩)

theorem top_le (s : Row) (c : EReal) (h : ∀ k, s k ≤ c) : top s ≤ c :=
  (Finset.fold_max_le _).mpr ⟨by rw [negInf_eq]; exact bot_le, fun k _ => h k⟩

theorem exists_top (s : Row) : ∃ k, s k = top s := by
  obtain ⟨k, -, hk⟩ := Finset.exists_max_image (Finset.univ : Finset (Fin 64)) s ⟨0, Finset.mem_univ 0⟩
  exact ⟨k, le_antisymm (le_top s k) (top_le s _ fun i => hk i (Finset.mem_univ i))⟩

theorem toInt_minsi (x y : BitVec 32) : (IntOp.minsi x y).toInt = min x.toInt y.toInt := by
  unfold IntOp.minsi
  by_cases h : x.slt y
  · rw [if_pos h]
    rw [BitVec.slt_iff_toInt_lt] at h
    omega
  · rw [if_neg h]
    rw [BitVec.slt_iff_toInt_lt] at h
    omega

theorem toInt_ofNat (x : Fin 64) : (BitVec.ofNat 32 (x : ℕ)).toInt = x := by
  revert x; decide

theorem ofNat_inj (x y : Fin 64) (h : BitVec.ofNat 32 (x : ℕ) = BitVec.ofNat 32 (y : ℕ)) : x = y := by
  have h' := congrArg BitVec.toInt h
  rw [toInt_ofNat, toInt_ofNat] at h'
  exact Fin.ext (by omega)

/-- The kernel's position is the first place `a` where the row is largest: later places may equal it, earlier ones are
    smaller. -/
theorem spot_spec (s : Row) :
    ∃ a : Fin 64, spot s = BitVec.ofNat 32 (a : ℕ) ∧ s a = top s ∧ ∀ k < a, s k < s a := by
  obtain ⟨k₀, hk₀⟩ := exists_top s
  obtain ⟨a, ha, hmin⟩ := Finset.exists_min_image (Finset.univ.filter fun k : Fin 64 => s k = top s) id
    ⟨k₀, Finset.mem_filter.mpr ⟨Finset.mem_univ _, hk₀⟩⟩
  have ha' : s a = top s := (Finset.mem_filter.mp ha).2
  have hlow : ∀ k, s k = top s → a ≤ k := fun k hk => hmin k (Finset.mem_filter.mpr ⟨Finset.mem_univ _, hk⟩)
  refine ⟨a, ?_, ha', fun k hk => ?_⟩
  · apply BitVec.eq_of_toInt_eq
    rw [toInt_ofNat]
    have hf := Finset.fold_hom (op := IntOp.minsi (w := 32)) (op' := (min : ℤ → ℤ → ℤ)) (m := BitVec.toInt)
      (s := (Finset.univ : Finset (Fin 64))) (b := 2147483647#32)
      (f := fun x : Fin 64 => if s x = top s then BitVec.ofNat 32 ↑x else 64#32) toInt_minsi
    unfold spot
    rw [← hf]
    refine le_antisymm ?_ ?_
    · refine (Finset.fold_min_le _).mpr (Or.inr ⟨a, Finset.mem_univ _, ?_⟩)
      simp only [if_pos ha', toInt_ofNat, le_refl]
    · refine (Finset.le_fold_min _).mpr ⟨?_, fun k _ => ?_⟩
      · have : (2147483647#32).toInt = 2147483647 := by decide
        rw [this]
        omega
      · by_cases hk : s k = top s
        · simp only [if_pos hk, toInt_ofNat]
          exact_mod_cast hlow k hk
        · simp only [if_neg hk]
          have : (64#32).toInt = 64 := by decide
          rw [this]
          omega
  · rw [ha']
    exact lt_of_le_of_ne (le_top s k) fun h => absurd (hlow k h) (not_le.mpr hk)

/-- The struck-out row, with the struck position named. -/
theorem rest_apply (s : Row) (a : Fin 64) (h : spot s = BitVec.ofNat 32 (a : ℕ)) (x : Fin 64) :
    rest s x = if x = a then ⊥ else s x := by
  unfold rest
  rw [h, negInf_eq]
  by_cases hx : x = a
  · subst hx
    simp [Scalar.select, IntOp.cmpi]
  · have hne : BitVec.ofNat 32 (x : ℕ) ≠ BitVec.ofNat 32 (a : ℕ) := fun e => hx (ofNat_inj _ _ e)
    simp [Scalar.select, IntOp.cmpi, hx, beq_false_of_ne hne]

/-- The two choices of a row with no entry at minus infinity: `a` is the first largest entry, `b` the first largest of the
    others. -/
theorem pair_spec (s : Row) (hs : ∀ k, s k ≠ ⊥) :
    ∃ a b : Fin 64, a ≠ b ∧ spot s = BitVec.ofNat 32 (a : ℕ) ∧ spot (rest s) = BitVec.ofNat 32 (b : ℕ)
      ∧ s a = top s ∧ s b = top (rest s) ∧ (∀ k, s k ≤ s a) ∧ (∀ k < a, s k < s a)
      ∧ (∀ k, k ≠ a → s k ≤ s b) ∧ (∀ k < b, k ≠ a → s k < s b) := by
  obtain ⟨a, ha, hsa, hlo⟩ := spot_spec s
  obtain ⟨b, hb, hsb, hlob⟩ := spot_spec (rest s)
  have hr := rest_apply s a ha
  have hne : a ≠ b := by
    rintro rfl
    have h0 : top (rest s) = ⊥ := by rw [← hsb, hr, if_pos rfl]
    obtain ⟨c, hc⟩ : ∃ c : Fin 64, c ≠ a := ⟨if a = 0 then 1 else 0, by split <;> rename_i h <;> [rw [h]; exact fun e => h e.symm]; decide⟩
    have h1 := le_top (rest s) c
    rw [h0, hr, if_neg hc] at h1
    exact hs c (le_bot_iff.mp h1)
  have hrb : rest s b = s b := by rw [hr, if_neg hne.symm]
  refine ⟨a, b, hne, ha, hb, hsa, hrb ▸ hsb, fun k => hsa ▸ le_top s k, hlo, fun k hk => ?_, fun k hk hka => ?_⟩
  · have h1 := le_top (rest s) k
    rw [← hsb, hrb, hr, if_neg hk] at h1
    exact h1
  · have h1 := hlob k hk
    rw [hrb, hr, if_neg hka] at h1
    exact h1

/-! ## The same two positions from a stable sort -/

/-- On a list in the order `P`, two comparisons that agree wherever the operand's order does not decide sort alike. -/
theorem stableSort_congr_of_pairwise {ι : Type} (P : ι → ι → Prop) (R R' : ι → ι → Bool) (l : List ι) (hl : l.Pairwise P)
    (h : ∀ a b, P a b → R b a = R' b a) : stableSort R l = stableSort R' l := by
  induction l with
  | nil => rfl
  | cons a l ih =>
    obtain ⟨ha, hl'⟩ := List.pairwise_cons.mp hl
    unfold stableSort
    rw [ih hl']
    exact insertBefore_congr R R' a _ fun b hb => h a b (ha b ((perm_stableSort R' l).mem_iff.mp hb))

/-- The sorted positions decide where each one comes from. -/
theorem sortedFrom_of_positions {n : ℕ} (R R' : Fin n → Fin n → Bool) (h : sortPositions n R = sortPositions n R') (k : Fin n) :
    sortedFrom R k = sortedFrom R' k := by
  unfold sortedFrom
  rw [List.get_eq_getElem, List.get_eq_getElem]
  exact List.getElem_of_eq h _

/-- A stable sort of the positions by a larger key is the sort by the larger key and then the lower position. -/
theorem sortedFrom_key (s : Row) (k : Fin 64) :
    sortedFrom (fun x y : Fin 64 => decide (s y < s x)) k
      = sortedFrom (fun x y : Fin 64 => decide (s y < s x) || (decide (s x = s y) && decide (x < y))) k := by
  refine sortedFrom_of_positions _ _ (stableSort_congr_of_pairwise (· < ·) _ _ _ (List.pairwise_lt_finRange 64) fun a b hab => ?_) k
  have : ¬ b < a := not_lt.mpr hab.le
  simp [this]

/-- The first two positions of the stable sort are the kernel's two choices. -/
theorem sorted_pair (s : Row) (a b : Fin 64) (hne : a ≠ b) (h1 : ∀ k, s k ≤ s a) (h2 : ∀ k < a, s k < s a)
    (h3 : ∀ k, k ≠ a → s k ≤ s b) (h4 : ∀ k < b, k ≠ a → s k < s b) (i : Fin 2) :
    sortedFrom (fun x y : Fin 64 => decide (s y < s x)) (i.castLE (by decide)) = if (i : ℕ) < 1 then a else b := by
  rw [sortedFrom_key]
  have hB := StrictTotalBefore.of_key_then_position (fun x y : EReal => decide (y < x)) s (fun x => by simp)
    (fun x y z hxy hyz => by simp only [decide_eq_true_eq] at *; exact lt_trans hyz hxy)
    (fun x y => by simp only [decide_eq_true_eq]; rcases lt_trichotomy x y with h | h | h <;> simp [h])
  have hbef : ∀ p q : Fin 64, p ≠ q → s p ≤ s q → (p < q → s p < s q) →
      (decide (s q < s p) || (decide (s p = s q) && decide (p < q))) = false := fun p q hpq hle hlt => by
    have h5 : ¬ s q < s p := not_lt.mpr hle
    have h6 : ¬ (s p = s q ∧ p < q) := fun ⟨e, l⟩ => absurd e (hlt l).ne
    simp only [Bool.or_eq_false_iff, Bool.and_eq_false_imp, decide_eq_true_eq, decide_eq_false_iff_not]
    exact ⟨h5, fun e l => h6 ⟨e, l⟩⟩
  let σ : Fin 2 → Fin 64 := fun j => if (j : ℕ) < 1 then a else b
  have h0 : σ 0 = a := rfl
  have hσ1 : σ 1 = b := rfl
  refine hB.sortedFrom_eq_of_prefix (k := 2) (by decide) σ ?_ ?_ ?_ i
  · intro x y hxy
    rcases Fin.exists_fin_two.mp ⟨x, rfl⟩ with rfl | rfl <;> rcases Fin.exists_fin_two.mp ⟨y, rfl⟩ with rfl | rfl
    · rfl
    · exact absurd (h0.symm.trans (hxy.trans hσ1)) hne
    · exact absurd (h0.symm.trans (hxy.symm.trans hσ1)) hne
    · rfl
  · intro x y hxy
    have hx : x = 0 := by omega
    have hy : y = 1 := by omega
    subst hx hy
    rw [h0, hσ1]
    exact hbef b a hne.symm (h1 b) fun l => lt_of_le_of_ne (h1 b) fun e => by
      have := h2 b l
      rw [e] at this
      exact lt_irrefl _ this
  · intro x p hp
    have ha : p ≠ a := fun e => hp 0 e.symm
    have hb : p ≠ b := fun e => hp 1 e.symm
    rcases Fin.exists_fin_two.mp ⟨x, rfl⟩ with rfl | rfl
    · rw [h0]
      exact hbef p a ha (h1 p) (h2 p)
    · rw [hσ1]
      exact hbef p b hb (h3 p ha) fun l => h4 p l ha

/-! ## Finite rows -/

/-- A maximum started once more from minus infinity is the same maximum. -/
theorem max_negInf (x : EReal) : max (Ideal.ofBits .f32 0xFF800000#32) x = x := by
  rw [negInf_eq]
  exact max_eq_right bot_le

/-- The extended reals that are real numbers. -/
def Real' (x : EReal) : Prop := ∃ r : ℝ, x = (r : EReal)

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.max {x y : EReal} (hx : Real' x) (hy : Real' y) : Real' (max x y) := by
  rcases max_choice x y with h | h <;> rw [h] <;> assumption

theorem Real'.zero : Real' 0 := ⟨0, rfl⟩

theorem Real'.sum {ι : Type} (t : Finset ι) (f : ι → EReal) (h : ∀ k, Real' (f k)) : Real' (∑ k ∈ t, f k) := by
  classical
  induction t using Finset.induction_on with
  | empty => exact Real'.zero
  | insert a t ha ih => rw [Finset.sum_insert ha]; exact (h a).add ih

theorem Real'.of_ne {x : EReal} (hb : x ≠ ⊥) (ht : x ≠ ⊤) : Real' x := ⟨x.toReal, (EReal.coe_toReal ht hb).symm⟩

theorem Real'.ne_bot {x : EReal} (h : Real' x) : x ≠ ⊥ := by
  obtain ⟨a, rfl⟩ := h
  exact EReal.coe_ne_bot a

/-- The exponential of a difference of reals is a positive real. -/
theorem exp_sub_pos {x y : EReal} (hx : Real' x) (hy : Real' y) : ∃ r : ℝ, 0 < r ∧ Ideal.exp (x - y) = (r : EReal) := by
  obtain ⟨a, rfl⟩ := hx
  obtain ⟨b, rfl⟩ := hy
  exact ⟨Real.exp (a - b), Real.exp_pos _, by rw [← EReal.coe_sub]; rfl⟩

theorem exp_self {x : EReal} (hx : Real' x) : Ideal.exp (x - x) = 1 := by
  obtain ⟨a, rfl⟩ := hx
  rw [← EReal.coe_sub, sub_self]
  show ((Real.exp 0 : ℝ) : EReal) = 1
  rw [Real.exp_zero]
  rfl

theorem sum_pos_real {ι : Type} (t : Finset ι) (ht : t.Nonempty) (f : ι → EReal) (h : ∀ k, ∃ r : ℝ, 0 < r ∧ f k = (r : EReal)) :
    ∃ r : ℝ, 0 < r ∧ ∑ k ∈ t, f k = (r : EReal) := by
  classical
  choose g hg hf using h
  refine ⟨∑ k ∈ t, g k, Finset.sum_pos (fun k _ => hg k) ht, ?_⟩
  clear ht
  induction t using Finset.induction_on with
  | empty => rfl
  | insert a t ha ih => rw [Finset.sum_insert ha, Finset.sum_insert ha, ih, hf a, EReal.coe_add]

/-- The largest entry of a row of reals is a real. -/
theorem top_real {l : Row} (hl : ∀ k, Real' (l k)) : Real' (top l) := by
  obtain ⟨k, hk⟩ := exists_top l
  rw [← hk]
  exact hl k

/-- The softmax of a row of reals is real. -/
theorem gate_real {l : Row} (hl : ∀ k, Real' (l k)) (j : Fin 64) : Real' (gate l j) := by
  obtain ⟨p, hp, hpe⟩ := sum_pos_real (Finset.univ : Finset (Fin 64)) ⟨0, Finset.mem_univ _⟩
    (fun k => Ideal.exp (l k - top l)) fun k => exp_sub_pos (hl k) (top_real hl)
  obtain ⟨q, hq, hqe⟩ := exp_sub_pos (hl j) (top_real hl)
  unfold gate
  rw [hpe, hqe]
  unfold Ideal.div
  rw [if_neg (by exact_mod_cast hp.ne')]
  exact ⟨q * p⁻¹, by rw [EReal.coe_mul, EReal.coe_inv]⟩

/-- The softmax over a row's two largest entries is its two weights: the larger of the two is the first, whose exponential
    is one. -/
theorem weight_eq (s : Row) (hs : ∀ k, Real' (s k)) (v : Fin 2 → EReal) (hv : ∀ i : Fin 2, v i = if (i : ℕ) < 1 then top s else top (rest s))
    (i : Fin 2) :
    Ideal.div (Ideal.exp (v i - Finset.univ.fold max (Ideal.ofBits .f32 0xFF800000#32) v))
      (∑ k, Ideal.exp (v k - Finset.univ.fold max (Ideal.ofBits .f32 0xFF800000#32) v)) = weight s i := by
  have h0 : v 0 = top s := hv 0
  have h1 : v 1 = top (rest s) := hv 1
  obtain ⟨a, b, hne, -, -, ha, hb, hmax, -⟩ := pair_spec s fun k => (hs k).ne_bot
  have hle : top (rest s) ≤ top s := by rw [← ha, ← hb]; exact hmax b
  have hM : Finset.univ.fold max (Ideal.ofBits .f32 0xFF800000#32) v = top s := by
    refine le_antisymm ?_ ?_
    · refine (Finset.fold_max_le _).mpr ⟨by rw [negInf_eq]; exact bot_le, fun k _ => ?_⟩
      rw [hv k]
      split
      · exact le_rfl
      · exact hle
    · exact (Finset.le_fold_max _).mpr (Or.inr ⟨0, Finset.mem_univ _, h0.ge⟩)
  rw [hM, Fin.sum_univ_two, h0, h1, exp_self (top_real hs), hv i]
  unfold weight ratio
  by_cases hi : (i : ℕ) < 1
  · rw [if_pos hi, if_pos hi, exp_self (top_real hs)]
  · rw [if_neg hi, if_neg hi]

/-! ## The loss -/

/-- The balance loss from the total of the gates per expert. -/
def lossOf (σ : Row) : EReal :=
  Ideal.ofBits .f32 0x42800000#32 * ∑ k, Ideal.div (σ k) (Ideal.ofBits .f32 0x46000000#32)
    * Ideal.log (Ideal.div (σ k) (Ideal.ofBits .f32 0x46000000#32) + Ideal.ofBits .f32 0x322BCC77#32)

end Cert.Rows
-- ==== Proof.Value.Block.lean ====
module

public import proofs.«01_k».proof.Proof.FusedIdeal.Body
public import proofs.«01_k».proof.Proof.Value.Row

@[expose] public section

set_option maxRecDepth 16384

noncomputable section

namespace Cert.KernelIdeal.Rows

open Cert.KernelIdeal Cert.KernelIdeal.Gen Cert.KernelIdeal.Fused Cert.Rows
open Idealize.ShloMosaic Idealize.ShloMosaic.TcCoe Idealize.SL.Sem

/-! # What a point of the kernel stores, row by row -/

/-- The scores of row `r` of a block `x`. -/
def scoreRow (x : FVec Ideal S512x4096 .f32) (w : FVec Ideal S4096x2048 .f32) (b : FVec Ideal S1x2048 .f32)
    (u : FVec Ideal S2048x64 .f32) (r : Fin 512) : Row :=
  fun j => ∑ k, max (∑ d, x (ix2 r d) * w (ix2 d k) + b (ix2 0 k)) 0 * u (ix2 k j)

section Given
variable (p : FVec Ideal S512x2048 .f32) (b : FVec Ideal S1x2048 .f32) (u : FVec Ideal S2048x64 .f32) (r : Fin 512)

/-- The gates, given the hidden layer before the bias. -/
theorem gates_apply (j : Fin 64) :
    k0_pay10 p b u (ix2 r j) = gate (fun j => ∑ k, max (p (ix2 r k) + b (ix2 0 k)) 0 * u (ix2 k j)) j := by
  pointwise [k0_pay10, gate, top]

/-- The row of gates. -/
abbrev row : Row := fun k => k0_pay10 p b u (ix2 r k)

theorem top_apply (z : Fin 1) : k0_pay11 p b u (ix2 r z) = top (row p b u r) := by
  pointwise [k0_pay11, top]

theorem spot_apply (z : Fin 1) : k0_pay12 p b u (ix2 r z) = spot (row p b u r) := by
  pointwise [k0_pay12, spot]
  simp only [top_apply]

theorem rest_apply (k : Fin 64) : k0_pay13 p b u (ix2 r k) = rest (row p b u r) k := by
  pointwise [k0_pay13, rest]
  simp only [spot_apply]

theorem top_rest_apply (z : Fin 1) : k0_pay14 p b u (ix2 r z) = top (rest (row p b u r)) := by
  pointwise [k0_pay14, top]
  simp only [rest_apply]

theorem spot_rest_apply (z : Fin 1) : k0_pay15 p b u (ix2 r z) = spot (rest (row p b u r)) := by
  pointwise [k0_pay15, spot]
  simp only [rest_apply, top_rest_apply]

/-- The two positions. -/
theorem choice_apply (i : Fin 2) : k0_pay2 (k0_pay12 p b u) (k0_pay15 p b u) (ix2 r i) = choice (row p b u r) i := by
  pointwise [k0_pay2, choice]
  by_cases hi : (i : ℕ) < 1
  · rw [dif_pos hi, if_pos hi]
    exact spot_apply p b u r _
  · rw [dif_neg hi, if_neg hi]
    exact spot_rest_apply p b u r _

theorem ratio_apply (z : Fin 1) : k0_pay16 p b u (ix2 r z) = ratio (row p b u r) := by
  pointwise [k0_pay16]
  unfold ratio
  rw [top_apply, top_rest_apply]

theorem total_apply (z : Fin 1) : k0_pay17 p b u (ix2 r z) = 1 + ratio (row p b u r) := by
  pointwise [k0_pay17]
  rw [ratio_apply]

theorem share_apply (z : Fin 1) : k0_pay18 p b u (ix2 r z) = Ideal.div 1 (1 + ratio (row p b u r)) := by
  pointwise [k0_pay18]
  rw [total_apply]

/-- The two weights. -/
theorem weight_apply (i : Fin 2) :
    k0_pay1 (k0_pay16 p b u) (k0_pay17 p b u) (k0_pay18 p b u) (ix2 r i) = weight (row p b u r) i := by
  generalize hE : k0_pay16 p b u = E
  generalize hD : k0_pay17 p b u = D
  generalize hR : k0_pay18 p b u = R
  pointwise [k0_pay1]
  subst hE hD hR
  unfold weight
  by_cases hi : (i : ℕ) < 1
  · rw [dif_pos hi, if_pos hi]
    exact share_apply p b u r _
  · rw [dif_neg hi, if_neg hi, ratio_apply, total_apply]

end Given

section Whole
variable (x : FVec Ideal S512x4096 .f32) (w : FVec Ideal S4096x2048 .f32) (b : FVec Ideal S1x2048 .f32)
  (u : FVec Ideal S2048x64 .f32)

/-- The hidden layer before the bias, as one product. -/
def whole : FVec Ideal S512x2048 .f32 :=
  matmul dot_S512x4096_S4096x2048_S512x2048_1_0_0_1_n_n none x w (constant S512x2048 .f32 0x00000000#32)

theorem whole_apply (r : Fin 512) (k : Fin 2048) : whole x w (ix2 r k) = ∑ d, x (ix2 r d) * w (ix2 d k) := by
  pointwise [whole]

/-- The first point's four partial products add up to the whole one. -/
theorem firstPre_eq : firstPre x w = whole x w := by
  funext i
  idx_vars i
  rw [whole_apply]
  pointwise [firstPre, k0_pay9, k0_pay8]
  rw [Fin.sum_univ_tiles 4 1024 rfl, Fin.sum_univ_four]
  rfl

/-! A later point does with one product what the first does with four. -/

theorem later_gates : k0_pay19 x w b u = k0_pay10 (whole x w) b u := by
  have h : shapeCast S512x4096 x shapeCasts_S512x4096_S512x4096 = x := by
    funext i
    idx_vars i
    pointwise []
  unfold k0_pay19 k0_pay10
  simp only [h]
  rfl

theorem later_top : k0_pay20 x w b u = k0_pay11 (whole x w) b u := by
  unfold k0_pay20 k0_pay11
  rw [later_gates]

theorem later_spot : k0_pay21 (F := Ideal) x w b u = k0_pay12 (whole x w) b u := by
  unfold k0_pay21 k0_pay12
  rw [later_gates, later_top]

theorem later_rest : k0_pay22 x w b u = k0_pay13 (whole x w) b u := by
  unfold k0_pay22 k0_pay13
  rw [later_gates, later_spot]

theorem later_top_rest : k0_pay23 x w b u = k0_pay14 (whole x w) b u := by
  unfold k0_pay23 k0_pay14
  rw [later_rest]

theorem laterScores_eq : laterScores (F := Ideal) x w b u
    = k0_pay1 (k0_pay16 (whole x w) b u) (k0_pay17 (whole x w) b u) (k0_pay18 (whole x w) b u) := by
  unfold laterScores
  rw [later_top, later_top_rest]
  rfl

theorem laterIdx_eq : laterIdx (F := Ideal) x w b u = k0_pay2 (k0_pay12 (whole x w) b u) (k0_pay15 (whole x w) b u) := by
  unfold laterIdx k0_pay5 k0_pay24 k0_pay2 k0_pay15
  rw [later_spot, later_rest, later_top_rest]

/-- A row's gates from the block, the weights and the bias. -/
theorem row_eq (r : Fin 512) : row (whole x w) b u r = gate (scoreRow x w b u r) := by
  funext j
  rw [row, gates_apply]
  simp only [whole_apply]
  rfl

/-! The values a point stores. -/

theorem firstScores_apply (r : Fin 512) (i : Fin 2) :
    firstScores (F := Ideal) x w b u (ix2 r i) = weight (gate (scoreRow x w b u r)) i := by
  unfold firstScores
  rw [firstPre_eq, weight_apply, row_eq]

theorem laterScores_apply (r : Fin 512) (i : Fin 2) :
    laterScores (F := Ideal) x w b u (ix2 r i) = weight (gate (scoreRow x w b u r)) i := by
  rw [laterScores_eq, weight_apply, row_eq]

theorem firstIdx_apply (r : Fin 512) (i : Fin 2) :
    firstIdx (F := Ideal) x w b u (ix2 r i) = choice (gate (scoreRow x w b u r)) i := by
  unfold firstIdx
  rw [firstPre_eq, choice_apply, row_eq]

theorem laterIdx_apply (r : Fin 512) (i : Fin 2) :
    laterIdx (F := Ideal) x w b u (ix2 r i) = choice (gate (scoreRow x w b u r)) i := by
  rw [laterIdx_eq, choice_apply, row_eq]

/-- The first point starts the running sum with its own rows. -/
theorem firstSum_apply (i : grid0.Coords) (hi : (i 0).val = 0) (a : FVec Ideal S1x64 .f32) (k : Fin 64) :
    firstSum (F := Ideal) x w b u i a (ix2 0 k) = ∑ r, gate (scoreRow x w b u r) k := by
  have hc : Scalar.cmpi .eq (BitVec.ofNat 32 (i 0).val) 0#32 = 1#1 := by rw [hi]; rfl
  have hg : ∀ r : Fin 512, gate (scoreRow x w b u r) k = k0_pay10 (whole x w) b u (ix2 r k) := fun r => by rw [← row_eq]
  simp only [hg]
  unfold firstSum
  rw [firstPre_eq]
  generalize k0_pay10 (whole x w) b u = s
  unfold k0_pay3
  simp only [hc, Scalar.select, if_pos (show (1#1 : BitVec 1) = 1 from rfl)]
  pointwise []

/-- A later point adds its rows to the running sum. -/
theorem laterSum_apply (i : grid0.Coords) (hi : (i 0).val ≠ 0) (a : FVec Ideal S1x64 .f32) (k : Fin 64) :
    laterSum (F := Ideal) x w b u i a (ix2 0 k) = a (ix2 0 k) + ∑ r, gate (scoreRow x w b u r) k := by
  have hc : Scalar.cmpi .eq (BitVec.ofNat 32 (i 0).val) 0#32 = 0#1 := by
    have hlt : (i 0).val < 16 := (i 0).isLt
    have : BitVec.ofNat 32 (i 0).val ≠ 0#32 := fun h => by
      have := congrArg BitVec.toNat h
      simp only [BitVec.toNat_ofNat] at this
      omega
    show BitVec.ofBool (BitVec.ofNat 32 (i 0).val == 0#32) = 0#1
    rw [beq_false_of_ne this]
    rfl
  have hg : ∀ r : Fin 512, gate (scoreRow x w b u r) k = k0_pay10 (whole x w) b u (ix2 r k) := fun r => by rw [← row_eq]
  simp only [hg]
  unfold laterSum
  rw [later_gates]
  generalize k0_pay10 (whole x w) b u = s
  unfold k0_pay6
  simp only [hc, Scalar.select, if_neg (show ¬(0#1 : BitVec 1) = 1 by decide)]
  pointwise []

end Whole

/-- The loss the last point stores, from the running sum. -/
theorem loss_apply (s : FVec Ideal S1x64 .f32) (i j : Fin 1) : k0_pay7 (F := Ideal) s (ix2 i j) = lossOf fun k => s (ix2 0 k) := by
  pointwise [k0_pay7, lossOf]

end Cert.KernelIdeal.Rows
-- ==== Proof.Value.Arrays.lean ====
module

public import proofs.«01_k».proof.Proof.FusedIdeal.Launch
public import proofs.«01_k».proof.Proof.Value.Block
public import Idealize.ShloMosaic.Lib.Pipeline.ValueKit
public import Idealize.ShloMosaic.Lib.Claim

@[expose] public section

set_option maxRecDepth 16384

noncomputable section

namespace Cert.KernelIdeal.Rows

open Cert.KernelIdeal Cert.KernelIdeal.Gen Cert.KernelIdeal.Fused Cert.Rows
open Idealize.ShloMosaic Idealize.ShloMosaic.TcCoe Idealize.SL.Sem
open Idealize.ShloMosaic.Pipeline (Dat)

/-! # The kernel's arrays after the run, row by row -/

variable (m : (ℓ : Loc nD τ sig) → Buf (Elt Ideal) ℓ) (ρ : Dev nD → PrngReg) (c : Dev nD)

/-- The four arguments. -/
abbrev arg0 : FVec Ideal S4x2048x4096 .f32 := m ((c.tc : Thread nD τ).loc main_arg0)
abbrev arg1 : FVec Ideal S4096x2048 .f32 := m ((c.tc : Thread nD τ).loc main_arg1)
abbrev arg2 : FVec Ideal S2048 .f32 := m ((c.tc : Thread nD τ).loc main_arg2)
abbrev arg3 : FVec Ideal S2048x64 .f32 := m ((c.tc : Thread nD τ).loc main_arg3)

/-- The input as rows. -/
def flat : FVec Ideal S8192x4096 .f32 := shapeCast S8192x4096 (arg0 m c) shapeCasts_S4x2048x4096_S8192x4096

/-- The gates of row `R` of the whole input. -/
def gateRow (R : Fin 8192) : Row :=
  gate fun j => ∑ k, max (∑ d, flat m c (ix2 R d) * arg1 m c (ix2 d k) + arg2 m c (ix1 k)) 0 * arg3 m c (ix2 k j)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] :=
  (by decide +kernel : ∀ t : Fin grid0.N, _)

theorem coord_val : ∀ t : Fin cfg0.N, (grid0.coords t 0).val = t.val := by decide +kernel

theorem point_lt (t : Fin cfg0.N) : t.val < 16 := t.isLt

/-- Row `r` of the block point `t` reads. -/
def at' (t : Fin cfg0.N) (r : Fin 512) : Fin 8192 := ⟨t.val * 512 + r.val, by have := point_lt t; omega⟩

theorem V_rows : V m c main_v0 = flat m c := by
  simp only [V, V0, List.flatten_cons, List.flatten_nil, List.append_nil, hostOps0, StableHlo.after]
  rfl

theorem V_bias : V m c main_v1 = shapeCast S1x2048 (arg2 m c) shapeCasts_S2048_S1x2048 := by
  simp only [V, V0, List.flatten_cons, List.flatten_nil, List.append_nil, hostOps0, StableHlo.after]
  rfl

theorem xB_apply (t : Fin cfg0.N) (r : Fin 512) (d : Fin 4096) : xB m c t (ix2 r d) = flat m c (ix2 (at' t r) d) := by
  unfold xB
  blk_simp [iblk]
  rw [V_rows]
  blk_ext [idx t, at']

theorem bB_apply (t : Fin cfg0.N) (k : Fin 2048) : bB m c t (ix2 0 k) = arg2 m c (ix1 k) := by
  unfold bB
  blk_simp [iblk]
  rw [V_bias]
  pointwise
  blk_ext [idx t]

theorem uB_apply (t : Fin cfg0.N) (k : Fin 2048) (j : Fin 64) : uB m c t (ix2 k j) = arg3 m c (ix2 k j) := by
  unfold uB
  blk_simp [iblk]
  rw [V_main_arg3]
  blk_ext [idx t]

theorem wts_eq : wts m c = arg1 m c := by
  unfold wts
  rw [V_main_arg1]
  rfl

theorem scoreRow_eq (t : Fin cfg0.N) (r : Fin 512) :
    gate (scoreRow (xB m c t) (wts m c) (bB m c t) (uB m c t) r) = gateRow m c (at' t r) := by
  unfold gateRow
  refine congrArg gate (funext fun j => ?_)
  unfold scoreRow
  refine Finset.sum_congr rfl fun k _ => ?_
  rw [uB_apply, bB_apply, wts_eq]
  refine congrArg (fun z => max (z + arg2 m c (ix1 k)) 0 * arg3 m c (ix2 k j)) (Finset.sum_congr rfl fun d _ => ?_)
  rw [xB_apply]

theorem scoresAt_apply (t : Fin cfg0.N) (r : Fin 512) (i : Fin 2) :
    scoresAt m c t (ix2 r i) = weight (gateRow m c (at' t r)) i := by
  rw [← scoreRow_eq]
  unfold scoresAt
  split
  · exact firstScores_apply _ _ _ _ r i
  · exact laterScores_apply _ _ _ _ r i

theorem idxAt_apply (t : Fin cfg0.N) (r : Fin 512) (i : Fin 2) :
    Fused.idxAt m c t (ix2 r i) = choice (gateRow m c (at' t r)) i := by
  rw [← scoreRow_eq]
  unfold Fused.idxAt
  split
  · exact firstIdx_apply _ _ _ _ r i
  · exact laterIdx_apply _ _ _ _ r i

/-- The scores array after the run. -/
theorem final3 : (dats m 0 c).arrAt 3 cfg0.N = (fun i => weight (gateRow m c (i 0)) (i 1) : FVec Ideal S8192x2 .f32) := by
  refine (dats m 0 c).arrAt_eq_of_covers 3 _ (by decide +kernel) fun t _ y => ?_
  blk_simp
  rw [after3]
  have e : (win0_3.blk t).view.emb y = (ix2 (at' t (y 0)) (y 1) : S8192x2.Idx) := by
    blk_ext [idx t, at']
  rw [e]
  idx_vars y
  exact scoresAt_apply m c t _ _

/-- The indices array after the run. -/
theorem final4 : (dats m 0 c).arrAt 4 cfg0.N = (fun i => choice (gateRow m c (i 0)) (i 1) : IVec S8192x2 32) := by
  refine (dats m 0 c).arrAt_eq_of_covers 4 _ (by decide +kernel) fun t _ y => ?_
  blk_simp
  rw [after4]
  have e : (win0_4.blk t).view.emb y = (ix2 (at' t (y 0)) (y 1) : S8192x2.Idx) := by
    blk_ext [idx t, at']
  rw [e]
  idx_vars y
  exact idxAt_apply m c t _ _

/-- The gate sum held after point `n`: the rows of all blocks so far. -/
theorem sumAfter_apply : ∀ (n : ℕ) (h : n < cfg0.N) (k : Fin 64),
    sumAfter m c n h (ix2 0 k) = ∑ s : Fin (n + 1), ∑ r : Fin 512, gateRow m c (at' ⟨s.val, by omega⟩ r) k
  | 0, h, k => by
    rw [sumAfter_zero, firstSum_apply _ _ _ _ _ (by rw [coord_val])]
    rw [Fin.sum_univ_one]
    simp only [scoreRow_eq]
    rfl
  | n + 1, h, k => by
    rw [sumAfter_succ, laterSum_apply _ _ _ _ _ (by rw [coord_val]; simp), sumAfter_apply n, Fin.sum_univ_castSucc (n := n + 1)]
    simp only [scoreRow_eq]
    rfl

theorem sum_all (h : 15 < cfg0.N) (k : Fin 64) : sumAfter m c 15 h (ix2 0 k) = ∑ R : Fin 8192, gateRow m c R k := by
  rw [sumAfter_apply]
  exact (Fin.sum_univ_tiles 16 512 rfl fun R => gateRow m c R k).symm

/-- The loss array after the run. -/
theorem final5 : (dats m 0 c).arrAt 5 cfg0.N
    = (fun _ => lossOf fun k => ∑ R, gateRow m c R k : FVec Ideal S1x1 .f32) := by
  refine (dats m 0 c).arrAt_eq_of_covers 5 _ (by decide +kernel) fun t hf y => ?_
  have ht : t.val = 15 := by
    have h := (flush0_5 t).mp hf
    have := point_lt t
    omega
  blk_simp
  rw [after5]
  have e : ∀ (n : ℕ) (h : n < cfg0.N), n = 15 → ∀ k, sumAfter m c n h (ix2 0 k) = ∑ R : Fin 8192, gateRow m c R k := by
    rintro _ h rfl k
    exact sum_all m c h k
  idx_vars y
  rw [loss_apply]
  exact congrArg lossOf (funext fun k => e t.val _ ht k)

/-- The scalar loss after the run: the loss array's one element. -/
theorem tail_loss : Pipeline.afterTail₀ cfgs (dats m) 0 (V0 m) [hostOps1] c main_v3
    = (fun _ => lossOf fun k => ∑ R, gateRow m c R k : FVec Ideal S_ .f32) := by
  unfold Pipeline.afterTail₀
  simp only [List.flatten_cons, List.flatten_nil, List.append_nil, hostOps1, StableHlo.after_cons, StableHlo.after_nil]
  rw [StableHlo.reshape_result]
  have e := (Pipeline.withArrays_arr (cfgs 0).spec (by decide : Function.Injective (Pipeline.arrRef spec0)) c (V0 m c)
    (fun w => (dats m 0 c).arrAt w (cfgs 0).N) 5).trans (final5 m c)
  funext i
  exact congrFun e _

/-- The run: the three results row by row, the arguments as they were. -/
theorem run : θ_run defs (onTc (τ := τ) main) ⟨m, fun _ => 0, ρ⟩ fun r => ∀ c : Dev nD,
    r.2.mem ((c.tc : Thread nD τ).loc main_v2_0) = (fun i => weight (gateRow m c (i 0)) (i 1) : FVec Ideal S8192x2 .f32)
    ∧ r.2.mem ((c.tc : Thread nD τ).loc main_v2_1) = (fun i => choice (gateRow m c (i 0)) (i 1) : IVec S8192x2 32)
    ∧ r.2.mem ((c.tc : Thread nD τ).loc main_v3) = (fun _ => lossOf fun k => ∑ R, gateRow m c R k : FVec Ideal S_ .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ?_) (θ_run_and (run_main m ρ) (frame m ρ))
  obtain ⟨hp, hf, _⟩ := h
  exact ⟨((hp c).1 3).trans (final3 m c), ((hp c).1 4).trans (final4 m c),
    ((hp c).2 main_v3 (Pipeline.mem_restRefs_of main_v3 (by decide) (by decide))).trans (tail_loss m c), hf c⟩

end Cert.KernelIdeal.Rows
-- ==== Proof.Value.Reference.lean ====
module

public import proofs.«01_k».proof.Proof.Gen.ReferenceIdeal.Run
public import proofs.«01_k».proof.Proof.Value.Row

@[expose] public section

set_option maxRecDepth 16384

noncomputable section

namespace Cert.ReferenceIdeal.Rows

open Cert.ReferenceIdeal Cert.ReferenceIdeal.Gen Cert.Rows
open Idealize.ShloMosaic Idealize.ShloMosaic.TcCoe Idealize.SL.Sem

/-! # The reference, step by step and row by row -/

/-- The hidden layer. -/
def hidden (x : FVec Ideal S4x2048x4096 .f32) (w : FVec Ideal S4096x2048 .f32) (b : FVec Ideal S2048 .f32) :
    FVec Ideal S8192x2048 .f32 :=
  maximumf (addf (Host.dotGeneral dot_S8192x4096_S4096x2048_S8192x2048_1_0_0_1_n_n none
      (shapeCast _ x shapeCasts_S4x2048x4096_S8192x4096) w)
    (broadcastInDim S8192x2048 ![0, 1] bcast_S1x2048_S8192x2048_0_1 (broadcastInDim S1x2048 ![1] bcast_S2048_S1x2048_1 b)))
    (broadcastInDim S8192x2048 ![] bcast_S_S8192x2048 (constant S_ .f32 0x00000000#32))

/-- The scores of the experts before they are normalised. -/
def logits (x : FVec Ideal S4x2048x4096 .f32) (w : FVec Ideal S4096x2048 .f32) (b : FVec Ideal S2048 .f32)
    (u : FVec Ideal S2048x64 .f32) : FVec Ideal S8192x64 .f32 :=
  Host.dotGeneral dot_S8192x2048_S2048x64_S8192x64_1_0_0_1_n_n none (hidden x w b) u

/-- The exponentials a softmax over the experts divides. -/
def exps (l : FVec Ideal S8192x64 .f32) : FVec Ideal S8192x64 .f32 :=
  Host.exp (subf l (broadcastInDim S8192x64 ![0, 1] bcast_S8192x1_S8192x64_0_1 (broadcastInDim S8192x1 ![0] bcast_S8192_S8192x1_0
    (maximumf (broadcastInDim S8192 ![] bcast_S_S8192 (constant S_ .f32 0xFF800000#32))
      (Host.reduce FloatOps.maximumf l (constant S_ .f32 0xFF800000#32) reducesTo_S8192x64_S8192_d1 h_S_)))))

/-- The softmax over the experts. -/
def gates (l : FVec Ideal S8192x64 .f32) : FVec Ideal S8192x64 .f32 :=
  Host.divf (exps l) (broadcastInDim S8192x64 ![0, 1] bcast_S8192x1_S8192x64_0_1 (broadcastInDim S8192x1 ![0] bcast_S8192_S8192x1_0
    (Host.reduceAdd (exps l) (constant S_ .f32 0x00000000#32) reducesTo_S8192x64_S8192_d1 h_S_)))

/-- The two largest gates of each row and their positions. -/
def chosen (g : FVec Ideal S8192x64 .f32) : (FVec Ideal S8192x2 .f32) × (IVec S8192x2 32) :=
  Host.topK S8192x2 1 (FloatOps.cmpfTotal .gt) g sliceFits_S8192x64_S8192x2

/-- The exponentials the softmax over the two chosen gates divides. -/
def exps2 (v : FVec Ideal S8192x2 .f32) : FVec Ideal S8192x2 .f32 :=
  Host.exp (subf v (broadcastInDim S8192x2 ![0, 1] bcast_S8192x1_S8192x2_0_1 (broadcastInDim S8192x1 ![0] bcast_S8192_S8192x1_0
    (maximumf (broadcastInDim S8192 ![] bcast_S_S8192 (constant S_ .f32 0xFF800000#32))
      (Host.reduce FloatOps.maximumf v (constant S_ .f32 0xFF800000#32) reducesTo_S8192x2_S8192_d1 h_S_)))))

/-- The softmax over the two chosen gates. -/
def weights (v : FVec Ideal S8192x2 .f32) : FVec Ideal S8192x2 .f32 :=
  Host.divf (exps2 v) (broadcastInDim S8192x2 ![0, 1] bcast_S8192x1_S8192x2_0_1 (broadcastInDim S8192x1 ![0] bcast_S8192_S8192x1_0
    (Host.reduceAdd (exps2 v) (constant S_ .f32 0x00000000#32) reducesTo_S8192x2_S8192_d1 h_S_)))

/-- The average gate of each expert. -/
def mean (g : FVec Ideal S8192x64 .f32) : FVec Ideal S64 .f32 :=
  Host.divf (Host.reduceAdd g (constant S_ .f32 0x00000000#32) reducesTo_S8192x64_S64_d0 h_S_)
    (broadcastInDim S64 ![] bcast_S_S64 (constant S_ .f32 0x46000000#32))

/-- The balance loss. -/
def loss (g : FVec Ideal S8192x64 .f32) : FVec Ideal S_ .f32 :=
  mulf (constant S_ .f32 0x42800000#32) (Host.reduceAdd
    (mulf (mean g) (Host.log (addf (mean g) (broadcastInDim S64 ![] bcast_S_S64 (constant S_ .f32 0x322BCC77#32)))))
    (constant S_ .f32 0x00000000#32) reducesTo_S64_S_d0 h_S_)

section Run
variable (m : (ℓ : Loc nD τ sig) → Buf (Elt Ideal) ℓ) (ρ : Dev nD → PrngReg) (c : Dev nD)

/-- The gates of the arguments in memory `m`. -/
def gatesOf : FVec Ideal S8192x64 .f32 :=
  gates (logits (m ((c.tc : Thread nD τ).loc main_arg0)) (m ((c.tc : Thread nD τ).loc main_arg1))
    (m ((c.tc : Thread nD τ).loc main_arg2)) (m ((c.tc : Thread nD τ).loc main_arg3)))

theorem out0_eq : Value.res_main_v28 m c = weights (chosen (gatesOf m c)).1 := rfl
theorem out2_eq : Value.res_main_v37 m c = loss (gatesOf m c) := rfl

/-- What the reference leaves in its three results, and that it leaves its arguments alone. -/
theorem run : θ_run defs (onTc (τ := τ) (main (F := Ideal))) ⟨m, fun _ => 0, ρ⟩ fun r => ∀ c : Dev nD,
      r.2.mem ((c.tc : Thread nD τ).loc main_v28) = weights (chosen (gatesOf m c)).1
      ∧ r.2.mem ((c.tc : Thread nD τ).loc main_indices) = (chosen (gatesOf m c)).2
      ∧ r.2.mem ((c.tc : Thread nD τ).loc main_v37) = loss (gatesOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Run

/-- One expert's score for a row: the hidden layer's entries, cut at zero, against that expert's weights. -/
theorem logits_apply (x : FVec Ideal S4x2048x4096 .f32) (w : FVec Ideal S4096x2048 .f32) (b : FVec Ideal S2048 .f32)
    (u : FVec Ideal S2048x64 .f32) (r : Fin 8192) (j : Fin 64) : logits x w b u (ix2 r j)
      = ∑ k, max (∑ d, shapeCast S8192x4096 x shapeCasts_S4x2048x4096_S8192x4096 (ix2 r d) * w (ix2 d k) + b (ix1 k)) 0
        * u (ix2 k j) := by
  pointwise [logits, hidden]

/-- The gates of a row are the softmax of its scores. -/
theorem gates_apply (l : FVec Ideal S8192x64 .f32) (r : Fin 8192) (j : Fin 64) :
    gates l (ix2 r j) = gate (fun k => l (ix2 r k)) j := by
  pointwise [gates, exps, gate, top]
  rw [max_negInf]

/-- The two chosen gates of a row and their positions. -/
theorem chosen_apply (g : FVec Ideal S8192x64 .f32) (r : Fin 8192) (hs : ∀ k, g (ix2 r k) ≠ ⊥) (i : Fin 2) :
    (chosen g).1 (ix2 r i) = (if (i : ℕ) < 1 then top fun k => g (ix2 r k) else top (rest fun k => g (ix2 r k)))
      ∧ (chosen g).2 (ix2 r i) = choice (fun k => g (ix2 r k)) i := by
  have hal : ∀ (k : Fin 64) (q : Fin 64), (ix2 r q : S8192x64.Idx).along 1 k = ix2 r k := fun k q => by
    idx_ext
  have hord : ∀ p q : Fin 64, (FloatOps.cmpfTotal (F := Ideal) (φ := .f32) CmpDirection.gt (g (ix2 r p)) (g (ix2 r q)) == 1#1)
      = decide (g (ix2 r q) < g (ix2 r p)) := fun p q => by
    show (BitVec.ofBool (decide _) == 1#1) = _
    by_cases h : g (ix2 r q) < g (ix2 r p) <;> simp [h]
  obtain ⟨a, b, hne, ha, hb, hsa, hsb, h1, h2, h3, h4⟩ := pair_spec (fun k => g (ix2 r k)) hs
  have hsort := sorted_pair (fun k => g (ix2 r k)) a b hne h1 h2 h3 h4 i
  have key : ∀ e q : Fin 64, (e = if (i : ℕ) < 1 then a else b) →
      (g ((ix2 r q : S8192x64.Idx).along 1 e) = if (i : ℕ) < 1 then top fun k => g (ix2 r k) else top (rest fun k => g (ix2 r k)))
        ∧ BitVec.ofNat 32 ((((ix2 r q : S8192x64.Idx).along 1 e) 1 : Fin 64) : ℕ)
          = if (i : ℕ) < 1 then spot fun k => g (ix2 r k) else spot (rest fun k => g (ix2 r k)) := by
    rintro e q rfl
    rw [hal]
    by_cases hi : (i : ℕ) < 1
    · simp only [if_pos hi]
      exact ⟨hsa, ha.symm⟩
    · simp only [if_neg hi]
      exact ⟨hsb, hb.symm⟩
  pointwise [chosen, Host.topK, Host.sort2, choice]
  refine key _ _ (Eq.trans (congrArg (fun B => sortedFrom B _) (funext fun p => funext fun q => ?_)) hsort)
  refine Eq.trans ?_ (hord p q)
  rw [← hal p ⟨↑i, by omega⟩, ← hal q ⟨↑i, by omega⟩]

/-- The weights of a row's two chosen gates. -/
theorem weights_apply (v : FVec Ideal S8192x2 .f32) (r : Fin 8192) (s : Row) (hs : ∀ k, Real' (s k))
    (hv : ∀ i : Fin 2, v (ix2 r i) = if (i : ℕ) < 1 then top s else top (rest s)) (i : Fin 2) :
    weights v (ix2 r i) = weight s i := by
  refine Eq.trans ?_ (weight_eq s hs (fun k => v (ix2 r k)) hv i)
  pointwise [weights, exps2]
  rw [max_negInf]

/-- The loss from the gates' totals. -/
theorem loss_apply (g : FVec Ideal S8192x64 .f32) (i : S_.Idx) : loss g i = lossOf fun k => ∑ r, g (ix2 r k) := by
  pointwise [loss, mean, lossOf]

end Cert.ReferenceIdeal.Rows
-- ==== Proof.Value.Equal.lean ====
module

public import proofs.«01_k».proof.Defs
public import proofs.«01_k».proof.Proof.Gen.Pre_finite
public import proofs.«01_k».proof.Proof.Value.Arrays
public import proofs.«01_k».proof.Proof.Value.Reference

@[expose] public section

noncomputable section

namespace Cert.Rows

open Idealize.ShloMosaic Idealize.ShloMosaic.TcCoe Idealize.SL.Sem

/-! # The kernel's rows are the reference's rows

The precondition makes every entry of the arguments a real number; then the scores are real, the gates are real, and the
reference's two largest gates and their softmax are what the kernel computes by masking. -/

/-- One element of the precondition. -/
theorem real_of_finite {S : Shape} (a : FVec Ideal S .f32) (lo hi : FVec Ideal S .f32) (i : S.Idx) (hlo : lo i = ⊥) (hhi : hi i = ⊤)
    (h : andi (cmpf .ogt a lo) (cmpf .olt a hi) i = 1#1) : Real' (a i) := by
  pointwise at h
  rw [hlo, hhi] at h
  refine Real'.of_ne (fun e => ?_) (fun e => ?_)
  · rw [e] at h
    simp [IntOp.andi] at h
  · rw [e] at h
    simp [IntOp.andi] at h

variable (m : (ℓ : Loc KernelIdeal.nD KernelIdeal.τ KernelIdeal.sig) → Buf (Elt Ideal) ℓ) (c : Dev KernelIdeal.nD)

theorem real_args (h : Pre_KernelIdeal_finite (hPre_finite := Pre_finite.Gen.facts) m) :
    (∀ i, Real' (KernelIdeal.Rows.arg0 m c i)) ∧ (∀ i, Real' (KernelIdeal.Rows.arg1 m c i))
      ∧ (∀ i, Real' (KernelIdeal.Rows.arg2 m c i)) ∧ (∀ i, Real' (KernelIdeal.Rows.arg3 m c i)) := by
  obtain ⟨h0, h1, h2, h3⟩ := h c
  have hinf : Ideal.ofBits .f32 0x7F800000#32 = ⊤ := by simp [Ideal.ofBits, Ideal.ieee]
  refine ⟨fun i => real_of_finite _ _ _ i ?_ ?_ (congrFun h0 i), fun i => real_of_finite _ _ _ i ?_ ?_ (congrFun h1 i),
    fun i => real_of_finite _ _ _ i ?_ ?_ (congrFun h2 i), fun i => real_of_finite _ _ _ i ?_ ?_ (congrFun h3 i)⟩
  all_goals pointwise
  all_goals first | exact negInf_eq | exact hinf

/-- Every gate is a real number. -/
theorem gateRow_real (h : Pre_KernelIdeal_finite (hPre_finite := Pre_finite.Gen.facts) m) (R : Fin 8192) (k : Fin 64) :
    Real' (KernelIdeal.Rows.gateRow m c R k) := by
  obtain ⟨h0, h1, h2, h3⟩ := real_args m c h
  refine gate_real (fun j => Real'.sum _ _ fun k => ?_) k
  refine Real'.mul (Real'.max (Real'.add (Real'.sum _ _ fun d => Real'.mul ?_ (h1 _)) (h2 _)) Real'.zero) (h3 _)
  unfold KernelIdeal.Rows.flat
  exact h0 _

variable (m' : (ℓ : Loc ReferenceIdeal.nD ReferenceIdeal.τ ReferenceIdeal.sig) → Buf (Elt Ideal) ℓ)

/-- The reference's gates, from the same arguments, are the kernel's. -/
theorem gatesOf_apply
    (e0 : m' ((c.tc : Thread ReferenceIdeal.nD ReferenceIdeal.τ).loc ReferenceIdeal.main_arg0) = KernelIdeal.Rows.arg0 m c)
    (e1 : m' ((c.tc : Thread ReferenceIdeal.nD ReferenceIdeal.τ).loc ReferenceIdeal.main_arg1) = KernelIdeal.Rows.arg1 m c)
    (e2 : m' ((c.tc : Thread ReferenceIdeal.nD ReferenceIdeal.τ).loc ReferenceIdeal.main_arg2) = KernelIdeal.Rows.arg2 m c)
    (e3 : m' ((c.tc : Thread ReferenceIdeal.nD ReferenceIdeal.τ).loc ReferenceIdeal.main_arg3) = KernelIdeal.Rows.arg3 m c)
    (R : Fin 8192) (k : Fin 64) :
    ReferenceIdeal.Rows.gatesOf m' c (ix2 R k) = KernelIdeal.Rows.gateRow m c R k := by
  unfold ReferenceIdeal.Rows.gatesOf KernelIdeal.Rows.gateRow
  rw [e0, e1, e2, e3, ReferenceIdeal.Rows.gates_apply]
  refine congrFun (congrArg gate (funext fun j => ?_)) k
  exact ReferenceIdeal.Rows.logits_apply _ _ _ _ R j

/-- The reference's three results over gates that are, row by row, real rows `G`. -/
theorem results_eq (g : FVec Ideal ReferenceIdeal.S8192x64 .f32) (G : Fin 8192 → Row) (hG : ∀ R k, Real' (G R k))
    (hg : ∀ R k, g (ix2 R k) = G R k) :
    ReferenceIdeal.Rows.weights (ReferenceIdeal.Rows.chosen g).1 = (fun i => weight (G (i 0)) (i 1))
    ∧ (ReferenceIdeal.Rows.chosen g).2 = (fun i => choice (G (i 0)) (i 1))
    ∧ ReferenceIdeal.Rows.loss g = (fun _ => lossOf fun k => ∑ R, G R k) := by
  have hr : ∀ R, (fun k => g (ix2 R k)) = G R := fun R => funext (hg R)
  have hc := fun R => ReferenceIdeal.Rows.chosen_apply g R fun k => by rw [hg R k]; exact (hG R k).ne_bot
  refine ⟨?_, ?_, ?_⟩
  · funext i
    idx_vars i
    refine ReferenceIdeal.Rows.weights_apply _ _ (G _) (hG _) (fun j => ?_) _
    rw [(hc _ j).1, hr]
  · funext i
    idx_vars i
    refine ((hc _ _).2).trans ?_
    rw [hr]
  · funext i
    rw [ReferenceIdeal.Rows.loss_apply]
    simp only [hg]

/-- The kernel and the reference end with equal results. -/
theorem algebraic : algebraic_KernelIdeal_ReferenceIdeal_pre_finite (hKernelIdeal := KernelIdeal.Gen.facts)
    (hReferenceIdeal := ReferenceIdeal.Gen.facts) (hPre_finite := Pre_finite.Gen.facts) := by
  intro m ρ m' ρ' hpre hargs
  refine ⟨_, _, _, KernelIdeal.Rows.run m ρ, (θ_run ReferenceIdeal.defs _ _).mono (fun r h c => ?_) (ReferenceIdeal.Rows.run m' ρ')⟩
  obtain ⟨e0, e1, e2, e3⟩ := hargs c
  obtain ⟨q0, q1, q2⟩ := results_eq _ (KernelIdeal.Rows.gateRow m c) (gateRow_real m c hpre) (gatesOf_apply m c m' e0 e1 e2 e3)
  obtain ⟨r0, r1, r2, ha⟩ := h c
  exact ⟨r0.trans q0, r1.trans q1, r2.trans q2, ha⟩

end Cert.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Fused.Launch
public import proofs.«01_k».proof.Proof.FusedIdeal.Launch
public import proofs.«01_k».proof.Proof.Value.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: a program of host operations alone has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_finite.Gen.facts,
    fun m ρ _ => Cert.Kernel.Fused.frame m ρ, fun m ρ _ => Cert.KernelIdeal.Fused.frame m ρ,
    fun m ρ _ => Cert.KernelIdeal.Fused.frame m ρ, frame_reference, fun m ρ _ => frame_reference m ρ trivial, trivial,
    Cert.Rows.algebraic⟩

end Cert.Proof

end
